-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_at_most_one [hPre_at_most_one : Cert.Pre_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_most_one [hPre_at_most_one : Cert.Pre_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_at_most_one [hKernelIdeal : Cert.KernelIdeal.Facts] [hPre_at_most_one : Cert.Pre_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_at_most_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_at_most_one [hReferenceIdeal : Cert.ReferenceIdeal.Facts] [hPre_at_most_one : Cert.Pre_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_at_most_one [hKernelIdeal : Cert.KernelIdeal.Facts] [hReferenceIdeal : Cert.ReferenceIdeal.Facts] [hPre_at_most_one : Cert.Pre_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_at_most_one : Cert.Pre_at_most_one.Facts),
    quiescent_Kernel (hKernel := hKernel)
    ∧ quiescent_KernelIdeal (hKernelIdeal := hKernelIdeal)
    ∧ quiescent_KernelIdeal_pre_at_most_one (hKernelIdeal := hKernelIdeal) (hPre_at_most_one := hPre_at_most_one)
    ∧ quiescent_ReferenceIdeal (hReferenceIdeal := hReferenceIdeal)
    ∧ quiescent_ReferenceIdeal_pre_at_most_one (hReferenceIdeal := hReferenceIdeal) (hPre_at_most_one := hPre_at_most_one)
    ∧ preserves_Kernel_KernelIdeal
    ∧ algebraic_KernelIdeal_ReferenceIdeal_pre_at_most_one (hKernelIdeal := hKernelIdeal) (hReferenceIdeal := hReferenceIdeal) (hPre_at_most_one := hPre_at_most_one)
-- ==== Pre_at_most_one.lean ====
abbrev S500000x21 : Shape := ⟨2, ![500000, 21]⟩
abbrev S500000 : Shape := ⟨1, ![500000]⟩
abbrev S500000x20 : Shape := ⟨2, ![500000, 20]⟩
abbrev S_ : Shape := ⟨0, ![]⟩

class Facts : Prop where
  slices_S500000x21_S500000x20_0_0 : S500000x21.Slices ![0, 0] S500000x20
  bcast_S_S500000x20 : S_.BroadcastsInDim S500000x20 (![] : Fin 0 → Fin S500000x20.rank)
  reducesTo_S500000x20_S_d0_1 : S500000x20.ReducesTo [0, 1] S_
  h_S_ : 0 < S_.numel

variable [Facts]

def fn {F : FTy → Type} [FloatOps F] (main_arg0 : FVec F S500000x21 .f32) (main_arg1 : IVec S500000 32) (main_arg2 : IVec S500000 1) : IVec S_ 1 :=
  let main_v0 : FVec F S500000x20 .f32 := (extractStridedSlice S500000x20 ![0, 0] · slices_S500000x21_S500000x20_0_0) main_arg0
  let main_cst : FVec F S_ .f32 := constant S_ .f32 0x3F800000#32
  let main_v1 : FVec F S500000x20 .f32 := broadcastInDim S500000x20 ![] bcast_S_S500000x20 main_cst
  let main_v2 : IVec S500000x20 1 := cmpf .ole main_v0 main_v1
  let main_c : IVec S_ 1 := constantI S_ 1 1#1
  let main_v3 : IVec S_ 1 := (fun x v => Host.reduce IntOp.andi x v reducesTo_S500000x20_S_d0_1 h_S_) main_v2 main_c
  main_v3
-- ==== Kernel.lean ====
abbrev S500000x21 : Shape := ⟨2, ![500000, 21]⟩
abbrev S500000 : Shape := ⟨1, ![500000]⟩
abbrev S500000x1 : Shape := ⟨2, ![500000, 1]⟩
abbrev S_ : Shape := ⟨0, ![]⟩
abbrev S1x16 : Shape := ⟨2, ![1, 16]⟩
abbrev S10 : Shape := ⟨1, ![10]⟩
abbrev S1 : Shape := ⟨1, ![1]⟩
abbrev S11 : Shape := ⟨1, ![11]⟩
abbrev S2 : Shape := ⟨1, ![2]⟩
abbrev S1x1 : Shape := ⟨2, ![1, 1]⟩
abbrev S2000x21 : Shape := ⟨2, ![2000, 21]⟩
abbrev S2000x1 : Shape := ⟨2, ![2000, 1]⟩
abbrev S48x128 : Shape := ⟨2, ![48, 128]⟩
abbrev S1x21 : Shape := ⟨2, ![1, 21]⟩
abbrev S21 : Shape := ⟨1, ![21]⟩
abbrev S10x21 : Shape := ⟨2, ![10, 21]⟩
abbrev S9x21 : Shape := ⟨2, ![9, 21]⟩

abbrev nBuf : Space → Nat
  | .hbm => 38
  | .vmem => 9
  | .smem => 0
  | _ => 0

abbrev bufTy : (tb : Table) → Fin (tcTables nBuf tb) → BufTy
  | .hbm, ⟨0, _⟩ => ⟨S500000x21, .f32⟩
  | .hbm, ⟨1, _⟩ => ⟨S500000, .i32⟩
  | .hbm, ⟨2, _⟩ => ⟨S500000, .i1⟩
  | .hbm, ⟨3, _⟩ => ⟨S500000x1, .i32⟩
  | .hbm, ⟨4, _⟩ => ⟨S500000, .f32⟩
  | .hbm, ⟨5, _⟩ => ⟨S500000x1, .f32⟩
  | .hbm, ⟨6, _⟩ => ⟨S_, .f32⟩
  | .hbm, ⟨7, _⟩ => ⟨S1x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S1, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S1, .f32⟩
  | .hbm, ⟨26, _⟩ => ⟨S10, .f32⟩
  | .hbm, ⟨27, _⟩ => ⟨S10, .f32⟩
  | .hbm, ⟨28, _⟩ => ⟨S10, .f32⟩
  | .hbm, ⟨29, _⟩ => ⟨S1, .f32⟩
  | .hbm, ⟨30, _⟩ => ⟨S11, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x16, .f32⟩
  | .hbm, ⟨37, _⟩ => ⟨S1x1, .f32⟩
  | .local _ .vmem, ⟨0, _⟩ => ⟨S1x16, .f32⟩
  | .local _ .vmem, ⟨1, _⟩ => ⟨S2000x21, .f32⟩
  | .local _ .vmem, ⟨2, _⟩ => ⟨S2000x21, .f32⟩
  | .local _ .vmem, ⟨3, _⟩ => ⟨S2000x1, .i32⟩
  | .local _ .vmem, ⟨4, _⟩ => ⟨S2000x1, .i32⟩
  | .local _ .vmem, ⟨5, _⟩ => ⟨S2000x1, .f32⟩
  | .local _ .vmem, ⟨6, _⟩ => ⟨S2000x1, .f32⟩
  | .local _ .vmem, ⟨7, _⟩ => ⟨S1x1, .f32⟩
  | .local _ .vmem, ⟨8, _⟩ => ⟨S48x128, .f32⟩
  | _, _ => ⟨S500000x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_c_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v196 : BitVec 1 := Scalar.cmpi .eq arg0 c249_i32
  let v197 : BitVec 32 := Scalar.extui v196
  let c0_i32_88 : BitVec 32 := 0#32
  let v198 : BitVec 1 := Scalar.cmpi .ne v197 c0_i32_88
  v198

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S500000x21 : Shape := ⟨2, ![500000, 21]⟩
abbrev S500000 : Shape := ⟨1, ![500000]⟩
abbrev S_ : Shape := ⟨0, ![]⟩
abbrev S10 : Shape := ⟨1, ![10]⟩
abbrev S1 : Shape := ⟨1, ![1]⟩
abbrev S11 : Shape := ⟨1, ![11]⟩
abbrev S500000x20 : Shape := ⟨2, ![500000, 20]⟩
abbrev S1x1x11 : Shape := ⟨3, ![1, 1, 11]⟩
abbrev S500000x20x1 : Shape := ⟨3, ![500000, 20, 1]⟩
abbrev S500000x20x11 : Shape := ⟨3, ![500000, 20, 11]⟩
abbrev S20 : Shape := ⟨1, ![20]⟩
abbrev S1x20 : Shape := ⟨2, ![1, 20]⟩
abbrev S10000000 : Shape := ⟨1, ![10000000]⟩
abbrev S201 : Shape := ⟨1, ![201]⟩
abbrev S10000000x1 : Shape := ⟨2, ![10000000, 1]⟩
abbrev S500000x1 : Shape := ⟨2, ![500000, 1]⟩
abbrev S200 : Shape := ⟨1, ![200]⟩
abbrev S20x10 : Shape := ⟨2, ![20, 10]⟩
abbrev S20x1 : Shape := ⟨2, ![20, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S500000x21, .f32⟩
  | 1 => ⟨S500000, .i32⟩
  | 2 => ⟨S500000, .i1⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S10, .f32⟩
  | 11 => ⟨S_, .f32⟩
  | 12 => ⟨S10, .f32⟩
  | 13 => ⟨S10, .f32⟩
  | 14 => ⟨S1, .f32⟩
  | 15 => ⟨S_, .f32⟩
  | 16 => ⟨S10, .f32⟩
  | 17 => ⟨S10, .f32⟩
  | 18 => ⟨S10, .f32⟩
  | 19 => ⟨S10, .f32⟩
  | 20 => ⟨S1, .f32⟩
  | 21 => ⟨S10, .f32⟩
  | 22 => ⟨S10, .f32⟩
  | 23 => ⟨S10, .f32⟩
  | 24 => ⟨S1, .f32⟩
  | 25 => ⟨S11, .f32⟩
  | 26 => ⟨S500000x20, .f32⟩
  | 27 => ⟨S1x1x11, .f32⟩
  | 28 => ⟨S500000x20x1, .f32⟩
  | 29 => ⟨S500000x20x11, .f32⟩
  | 30 => ⟨S500000x20x11, .f32⟩
  | 31 => ⟨S500000x20x11, .i1⟩
  | 32 => ⟨S500000x20x11, .i32⟩
  | 33 => ⟨S_, .i32⟩
  | 34 => ⟨S500000x20, .i32⟩
  | 35 => ⟨S_, .i32⟩
  | 36 => ⟨S500000x20, .i32⟩
  | 37 => ⟨S500000x20, .i32⟩
  | 38 => ⟨S_, .i32⟩
  | 39 => ⟨S500000x20, .i32⟩
  | 40 => ⟨S500000x20, .i1⟩
  | 41 => ⟨S20, .i32⟩
  | 42 => ⟨S1x20, .i32⟩
  | 43 => ⟨S_, .i32⟩
  | 44 => ⟨S1x20, .i32⟩
  | 45 => ⟨S1x20, .i32⟩
  | 46 => ⟨S500000x20, .i32⟩
  | 47 => ⟨S500000x20, .i32⟩
  | 48 => ⟨S_, .i32⟩
  | 49 => ⟨S_, .i32⟩
  | 50 => ⟨S500000x20, .i32⟩
  | 51 => ⟨S500000x20, .i32⟩
  | 52 => ⟨S10000000, .i32⟩
  | 53 => ⟨S_, .f32⟩
  | 54 => ⟨S500000x20, .f32⟩
  | 55 => ⟨S_, .f32⟩
  | 56 => ⟨S201, .f32⟩
  | 57 => ⟨S10000000, .f32⟩
  | 58 => ⟨S_, .i32⟩
  | 59 => ⟨S10000000, .i32⟩
  | 60 => ⟨S10000000, .i1⟩
  | 61 => ⟨S_, .i32⟩
  | 62 => ⟨S10000000, .i32⟩
  | 63 => ⟨S10000000, .i32⟩
  | 64 => ⟨S10000000, .i32⟩
  | 65 => ⟨S10000000x1, .i32⟩
  | 66 => ⟨S201, .f32⟩
  | 67 => ⟨S_, .f32⟩
  | 68 => ⟨S201, .f32⟩
  | 69 => ⟨S10000000, .f32⟩
  | 70 => ⟨S_, .i32⟩
  | 71 => ⟨S10000000, .i32⟩
  | 72 => ⟨S10000000, .i1⟩
  | 73 => ⟨S_, .i32⟩
  | 74 => ⟨S10000000, .i32⟩
  | 75 => ⟨S10000000, .i32⟩
  | 76 => ⟨S10000000, .i32⟩
  | 77 => ⟨S10000000x1, .i32⟩
  | 78 => ⟨S201, .f32⟩
  | 79 => ⟨S500000x1, .i1⟩
  | 80 => ⟨S_, .i1⟩
  | 81 => ⟨S1x20, .i1⟩
  | 82 => ⟨S500000x20, .i1⟩
  | 83 => ⟨S500000x20, .i1⟩
  | 84 => ⟨S500000x20, .i1⟩
  | 85 => ⟨S_, .f32⟩
  | 86 => ⟨S201, .f32⟩
  | 87 => ⟨S500000x20, .f32⟩
  | 88 => ⟨S10000000, .f32⟩
  | 89 => ⟨S_, .i32⟩
  | 90 => ⟨S10000000, .i32⟩
  | 91 => ⟨S10000000, .i1⟩
  | 92 => ⟨S_, .i32⟩
  | 93 => ⟨S10000000, .i32⟩
  | 94 => ⟨S10000000, .i32⟩
  | 95 => ⟨S10000000, .i32⟩
  | 96 => ⟨S10000000x1, .i32⟩
  | 97 => ⟨S201, .f32⟩
  | 98 => ⟨S500000x1, .i32⟩
  | 99 => ⟨S500000x20, .i32⟩
  | 100 => ⟨S500000x20, .i32⟩
  | 101 => ⟨S500000x20, .i1⟩
  | 102 => ⟨S500000x1, .i1⟩
  | 103 => ⟨S500000x20, .i1⟩
  | 104 => ⟨S500000x20, .i1⟩
  | 105 => ⟨S_, .f32⟩
  | 106 => ⟨S201, .f32⟩
  | 107 => ⟨S500000x20, .f32⟩
  | 108 => ⟨S10000000, .f32⟩
  | 109 => ⟨S_, .i32⟩
  | 110 => ⟨S10000000, .i32⟩
  | 111 => ⟨S10000000, .i1⟩
  | 112 => ⟨S_, .i32⟩
  | 113 => ⟨S10000000, .i32⟩
  | 114 => ⟨S10000000, .i32⟩
  | 115 => ⟨S10000000, .i32⟩
  | 116 => ⟨S10000000x1, .i32⟩
  | 117 => ⟨S201, .f32⟩
  | 118 => ⟨S200, .f32⟩
  | 119 => ⟨S20x10, .f32⟩
  | 120 => ⟨S200, .f32⟩
  | 121 => ⟨S20x10, .f32⟩
  | 122 => ⟨S200, .f32⟩
  | 123 => ⟨S20x10, .f32⟩
  | 124 => ⟨S200, .f32⟩
  | 125 => ⟨S20x10, .f32⟩
  | 126 => ⟨S20x10, .f32⟩
  | 127 => ⟨S20x10, .f32⟩
  | _ => ⟨S500000x21, .f32⟩

abbrev hbmTy0_1 (i : Nat) : BufTy := match i % 128 with
  | 0 => ⟨S20x10, .f32⟩
  | 1 => ⟨S_, .f32⟩
  | 2 => ⟨S20x10, .f32⟩
  | 3 => ⟨S20x10, .i1⟩
  | 4 => ⟨S_, .f32⟩
  | 5 => ⟨S20x10, .f32⟩
  | 6 => ⟨S20x10, .f32⟩
  | 7 => ⟨S20x10, .f32⟩
  | 8 => ⟨S20x10, .f32⟩
  | 9 => ⟨S_, .f32⟩
  | 10 => ⟨S20x10, .f32⟩
  | 11 => ⟨S20x10, .f32⟩
  | 12 => ⟨S20x10, .f32⟩
  | 13 => ⟨S_, .f32⟩
  | 14 => ⟨S20, .f32⟩
  | 15 => ⟨S20x1, .f32⟩
  | 16 => ⟨S20x10, .f32⟩
  | 17 => ⟨S20x10, .f32⟩
  | 18 => ⟨S20x10, .f32⟩
  | 19 => ⟨S20x10, .f32⟩
  | 20 => ⟨S20x10, .f32⟩
  | 21 => ⟨S_, .f32⟩
  | 22 => ⟨S_, .f32⟩
  | 23 => ⟨S20x10, .f32⟩
  | 24 => ⟨S20x10, .f32⟩
  | 25 => ⟨S_, .f32⟩
  | 26 => ⟨S20, .f32⟩
  | 27 => ⟨S_, .f32⟩
  | 28 => ⟨S20, .f32⟩
  | 29 => ⟨S20, .f32⟩
  | 30 => ⟨S20, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | _ => ⟨S500000x21, .f32⟩

abbrev hbmTy (i : Nat) : BufTy := match i / 128 with
  | 0 => hbmTy0_0 i
  | 1 => hbmTy0_1 i
  | _ => ⟨S500000x21, .f32⟩

abbrev bufTy : (tb : Table) → Fin (tcTables nBuf tb) → BufTy
  | .hbm, ⟨i, _⟩ => hbmTy i
  | _, _ => ⟨S500000x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_call1_v0 : Ref sig .tc := ⟨.hbm, 49, rfl⟩
abbrev main_call1_v1 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_cst_6 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_9 : Ref sig .tc := ⟨.hbm, 67, rfl⟩
abbrev main_v31 : Ref sig .tc := ⟨.hbm, 68, rfl⟩
abbrev main_v32 : Ref sig .tc := ⟨.hbm, 69, rfl⟩
abbrev main_c_10 : Ref sig .tc := ⟨.hbm, 70, rfl⟩
abbrev main_v33 : Ref sig .tc := ⟨.hbm, 71, rfl⟩
abbrev main_v34 : Ref sig .tc := ⟨.hbm, 72, rfl⟩
abbrev main_c_11 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_12 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_14 : Ref sig .tc := ⟨.hbm, 89, rfl⟩
abbrev main_v48 : Ref sig .tc := ⟨.hbm, 90, rfl⟩
abbrev main_v49 : Ref sig .tc := ⟨.hbm, 91, rfl⟩
abbrev main_c_15 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_16 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_c_17 : Ref sig .tc := ⟨.hbm, 109, rfl⟩
abbrev main_v65 : Ref sig .tc := ⟨.hbm, 110, rfl⟩
abbrev main_v66 : Ref sig .tc := ⟨.hbm, 111, rfl⟩
abbrev main_c_18 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_19 : Ref sig .tc := ⟨.hbm, 129, rfl⟩
abbrev main_v83 : Ref sig .tc := ⟨.hbm, 130, rfl⟩
abbrev main_v84 : Ref sig .tc := ⟨.hbm, 131, rfl⟩
abbrev main_cst_20 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_21 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_22 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_23 : Ref sig .tc := ⟨.hbm, 149, rfl⟩
abbrev main_call2_v0 : Ref sig .tc := ⟨.hbm, 150, rfl⟩
abbrev main_call2_v1 : Ref sig .tc := ⟨.hbm, 151, rfl⟩
abbrev main_v99 : Ref sig .tc := ⟨.hbm, 152, rfl⟩
abbrev main_cst_24 : Ref sig .tc := ⟨.hbm, 153, rfl⟩
abbrev main_v100 : Ref sig .tc := ⟨.hbm, 154, rfl⟩
abbrev main_cst_25 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_26 : Ref sig .tc := ⟨.hbm, 159, rfl⟩
abbrev main_v104 : Ref sig .tc := ⟨.hbm, 160, rfl⟩
abbrev main_cst_27 : Ref sig .tc := ⟨.hbm, 161, rfl⟩
abbrev main_v105 : Ref sig .tc := ⟨.hbm, 162, rfl⟩
abbrev main_cst_28 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Proof.KernelStep.lean ====
/-
  What the kernel body does to its accumulator and to its result, element by element, over the extended reals.

  The accumulator is a [48, 128] buffer of which three blocks of ten rows and twenty-one columns are used: row `j` holds
  the number of rows whose score in the column lies strictly above the edge `j`, row `16 + j` the sum of those scores, and
  row `32 + j` the number of those rows that are matched with the column's class.
-/
module

public import proofs.«01_k».proof.Proof.Gen.KernelIdeal.Value
public import Idealize.ShloMosaic.Lib.Pointwise
public import Idealize.ShloMosaic.Lib.WritesUnit
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

/-! ## The three blocks of rows a point adds -/

/-- The ten rows of counts after a point: what the accumulator held plus the point's counts. -/
def newCnt (x0 : Vec Ideal S1x16 .f32) (x1 : Vec Ideal S2000x21 .f32) (s : Vec Ideal S10x21 .f32) : FVec Ideal S10x21 .f32 :=
  k0_pay45 x1 (k0_pay6 x1 x0) (k0_pay11 (k0_pay9 x1 x0) (FloatOps.ofBits FTy.f32 0#32) k0_pay10) (k0_pay15 x1 (k0_pay3 x0))
    (k0_pay19 x1 (k0_pay3 x0)) (k0_pay24 x1 (k0_pay3 x0)) (k0_pay28 x1 (k0_pay3 x0)) (k0_pay32 x1 (k0_pay3 x0)) (k0_pay36 x1 (k0_pay3 x0))
    (k0_pay40 x1 (k0_pay3 x0)) (k0_pay43 (k0_pay3 x0)) s

/-- The ten rows of sums of scores after a point. -/
def newSum (x0 : Vec Ideal S1x16 .f32) (x1 : Vec Ideal S2000x21 .f32) (s : Vec Ideal S10x21 .f32) : FVec Ideal S10x21 .f32 :=
  k0_pay46 x1 (k0_pay7 x1 x0) (k0_pay12 x1 (k0_pay9 x1 x0)) (k0_pay16 x1 (k0_pay3 x0))
              (k0_pay20 x1 (k0_pay3 x0)) (k0_pay25 x1 (k0_pay3 x0)) (k0_pay29 x1 (k0_pay3 x0))
              (k0_pay33 x1 (k0_pay31 x1 (k0_pay3 x0))) (k0_pay37 x1 (k0_pay3 x0)) (k0_pay41 x1 (k0_pay3 x0))
              (k0_pay43 (k0_pay3 x0)) s

/-- The ten rows of counts of correct matches after a point. -/
def newCor (x0 : Vec Ideal S1x16 .f32) (x1 : Vec Ideal S2000x21 .f32) (x2 : Vec Ideal S2000x1 .i32) (x3 : Vec Ideal S2000x1 .f32)
    (s : Vec Ideal S10x21 .f32) : FVec Ideal S10x21 .f32 :=
  k0_pay47 x1 (k0_pay4 x2 x3) (k0_pay8 x1 x2 x3 x0) (k0_pay13 (k0_pay4 x2 x3) (k0_pay9 x1 x0))
              (k0_pay17 x1 (k0_pay3 x0) (k0_pay4 x2 x3)) (k0_pay22 (k0_pay21 x1 (k0_pay3 x0) (k0_pay4 x2 x3)))
              (k0_pay26 x1 (k0_pay3 x0) (k0_pay4 x2 x3)) (k0_pay30 x1 (k0_pay3 x0) (k0_pay4 x2 x3))
              (k0_pay34 (k0_pay4 x2 x3) (k0_pay31 x1 (k0_pay3 x0))) (k0_pay38 x1 (k0_pay3 x0) (k0_pay4 x2 x3))
              (k0_pay42 x1 (k0_pay3 x0) (k0_pay4 x2 x3)) (k0_pay43 (k0_pay3 x0)) s

/-- Row `j` of the counts gains, in column `l`, the number of the block's rows whose score is above the edge `j`. -/
theorem newCnt_apply (x0 : Vec Ideal S1x16 .f32) (x1 : Vec Ideal S2000x21 .f32) (s : Vec Ideal S10x21 .f32) (j : Fin 10) (l : Fin 21) :
    newCnt x0 x1 s (ix2 j l) = s (ix2 j l) + ∑ r : Fin 2000, if x0 (ix2 0 ⟨j.val, by omega⟩) < x1 (ix2 r l) then (1 : EReal) else 0 := by
  fin_cases j
  all_goals
    pointwise [newCnt, k0_pay3, k0_pay5, k0_pay6, k0_pay9, k0_pay10, k0_pay11, k0_pay14, k0_pay15, k0_pay18, k0_pay19, k0_pay23, k0_pay24, k0_pay27,
      k0_pay28, k0_pay31, k0_pay32, k0_pay35, k0_pay36, k0_pay39, k0_pay40, k0_pay43, k0_pay44, k0_pay45]

/-- Row `j` of the sums gains the sum of those scores. -/
theorem newSum_apply (x0 : Vec Ideal S1x16 .f32) (x1 : Vec Ideal S2000x21 .f32) (s : Vec Ideal S10x21 .f32) (j : Fin 10) (l : Fin 21) :
    newSum x0 x1 s (ix2 j l) = s (ix2 j l) + ∑ r : Fin 2000, if x0 (ix2 0 ⟨j.val, by omega⟩) < x1 (ix2 r l) then (x1 (ix2 r l) : EReal) else 0 := by
  fin_cases j
  all_goals
    pointwise [newSum, k0_pay3, k0_pay5, k0_pay7, k0_pay9, k0_pay12, k0_pay14, k0_pay16, k0_pay18, k0_pay20, k0_pay23, k0_pay25, k0_pay27,
      k0_pay29, k0_pay31, k0_pay33, k0_pay35, k0_pay37, k0_pay39, k0_pay41, k0_pay43, k0_pay44, k0_pay46]

theorem select_eq (a b : BitVec 32) (x y : EReal) : Scalar.select (IntOp.cmpi .eq a b) x y = if a = b then x else y := by
  by_cases h : a = b
  · simp [Scalar.select, IntOp.cmpi, h]
  · have hb : (a == b) = false := by simpa using h
    simp [Scalar.select, IntOp.cmpi, h, hb]

/-- Row `j` of the correct matches gains the match flags of those rows whose label is the column's class. -/
theorem newCor_apply (x0 : Vec Ideal S1x16 .f32) (x1 : Vec Ideal S2000x21 .f32) (x2 : Vec Ideal S2000x1 .i32) (x3 : Vec Ideal S2000x1 .f32)
    (s : Vec Ideal S10x21 .f32) (j : Fin 10) (l : Fin 21) :
    newCor x0 x1 x2 x3 s (ix2 j l) = s (ix2 j l) + ∑ r : Fin 2000, if x0 (ix2 0 ⟨j.val, by omega⟩) < x1 (ix2 r l) then
      (if x2 (ix2 r 0) = BitVec.ofNat 32 l.val then (x3 (ix2 r 0) : EReal) else 0) else 0 := by
  fin_cases j
  all_goals
    pointwise [newCor, k0_pay3, k0_pay4, k0_pay5, k0_pay8, k0_pay9, k0_pay13, k0_pay14, k0_pay17, k0_pay18, k0_pay21, k0_pay22, k0_pay23, k0_pay26,
      k0_pay27, k0_pay30, k0_pay31, k0_pay34, k0_pay35, k0_pay38, k0_pay39, k0_pay42, k0_pay43, k0_pay44, k0_pay47]
  all_goals simp only [select_eq]

/-! ## Blocks of the accumulator -/

theorem zeros2 : (![0, 0] : Fin 2 → Nat) = fun _ => 0 := funext fun a => by fin_cases a <;> rfl

/-- The ten rows from row 0, of the first twenty-one columns. -/
abbrev R0 : Rect S48x128 := Rect.unit ![0, 0] ![10, 21] inb_S48x128_S10x21_0_0
/-- The ten rows from row 16. -/
abbrev R16 : Rect S48x128 := Rect.unit ![16, 0] ![10, 21] inb_S48x128_S10x21_16_0
/-- The ten rows from row 32. -/
abbrev R32 : Rect S48x128 := Rect.unit ![32, 0] ![10, 21] inb_S48x128_S10x21_32_0

theorem disj_16_0 : Disjoint R16.set R0.set := by
  rw [Finset.disjoint_left]; intro y h h'; rw [Rect.mem_set_unit] at h h'
  have a := h 0; have b := h' 0; simp at a b; omega
theorem disj_32_0 : Disjoint R32.set R0.set := by
  rw [Finset.disjoint_left]; intro y h h'; rw [Rect.mem_set_unit] at h h'
  have a := h 0; have b := h' 0; simp at a b; omega
theorem disj_32_16 : Disjoint R32.set R16.set := by
  rw [Finset.disjoint_left]; intro y h h'; rw [Rect.mem_set_unit] at h h'
  have a := h 0; have b := h' 0; simp at a b; omega

/-- The accumulator's ten rows from row 0 as a [10, 21] block. -/
def blk0 (s : Vec Ideal S48x128 .f32) : Vec Ideal S10x21 .f32 := View.ld s R0
/-- The ten rows from row 16. -/
def blk16 (s : Vec Ideal S48x128 .f32) : Vec Ideal S10x21 .f32 := View.ld s R16
/-- The ten rows from row 32. -/
def blk32 (s : Vec Ideal S48x128 .f32) : Vec Ideal S10x21 .f32 := View.ld s R32

/-- A block of what a list of stores left, read through the rectangle of the first store in the list. -/
theorem ld_read_writes_cons (v : View sig .tc .vmem S48x128 .f32) (f : v.ty.Contents (Elt Ideal)) (r : Rect S48x128)
    (w : r.shape.Idx → Elt Ideal .f32) (L : List (View.Piece (Elt Ideal) S48x128 .f32)) :
    View.ld (v.read (Elt Ideal) (v.writes (Elt Ideal) f (⟨r, w⟩ :: L))) r = w :=
  funext fun x => View.read_writes_cons_emb v f r w L x

/-- A block apart from the first store's rectangle is what the other stores left. -/
theorem ld_read_writes_of_disjoint (v : View sig .tc .vmem S48x128 .f32) (f : v.ty.Contents (Elt Ideal)) (r' r : Rect S48x128)
    (w : r'.shape.Idx → Elt Ideal .f32) (L : List (View.Piece (Elt Ideal) S48x128 .f32)) (h : Disjoint r'.set r.set) :
    View.ld (v.read (Elt Ideal) (v.writes (Elt Ideal) f (⟨r', w⟩ :: L))) r = View.ld (v.read (Elt Ideal) (v.writes (Elt Ideal) f L)) r :=
  funext fun x => by
    have hy : r.emb x ∉ Finset.univ.map r'.emb := by
      rw [Rect.map_emb_univ]
      exact Finset.disjoint_right.mp h (by rw [← Rect.map_emb_univ]; exact Finset.mem_map_of_mem _ (Finset.mem_univ x))
    show v.read (Elt Ideal) (v.writes (Elt Ideal) f (⟨r', w⟩ :: L)) (r.emb x) = _
    rw [View.writes_cons]
    exact View.read_slice_write_of_not_mem _ _ _ _ hy

/-- The same for a load of the body from what its stores so far left. -/
theorem readCov_of_disjoint (v : View sig .tc .vmem S48x128 .f32) (r' r : Rect S48x128)
    (w : r'.shape.Idx → Elt Ideal .f32) (L : List (View.Piece (Elt Ideal) S48x128 .f32)) (h : Disjoint r'.set r.set) :
    v.readCov (⟨r', w⟩ :: L) r.toLoadRect = v.readCov L r.toLoadRect :=
  View.readCov_cons_of_disjoint v ⟨r', w⟩ L r.toLoadRect h

/-! ## The points -/

section Points

set_option maxRecDepth 100000

variable (c : Dev nD) (i : grid0.Coords) (arg1 : Memref sig .tc .vmem S1x16 .f32) (harg1 : arg1.IsWhole) (arg2 : Memref sig .tc .vmem S2000x21 .f32) (harg2 : arg2.IsWhole) (arg3 : Memref sig .tc .vmem S2000x1 .i32) (harg3 : arg3.IsWhole) (arg4 : Memref sig .tc .vmem S2000x1 .f32) (harg4 : arg4.IsWhole) (arg5 : Memref sig .tc .vmem S1x1 .f32) (harg5 : arg5.IsWhole) (arg6 : Memref sig .tc .vmem S48x128 .f32) (harg6 : arg6.IsWhole)
  (x0 : Vec Ideal S1x16 .f32) (x1 : Vec Ideal S2000x21 .f32) (x2 : Vec Ideal S2000x1 .i32) (x3 : Vec Ideal S2000x1 .f32)

/-- A middle point leaves the counts with the point's added. -/
theorem blk0_B (hc0 : ¬cond0_0 i) (hc1 : ¬cond0_1 i) (xs0 : Vec Ideal S48x128 .f32) :
    blk0 (sout0_B_0 c i arg1 harg1 arg2 harg2 arg3 harg3 arg4 harg4 arg5 harg5 arg6 harg6 hc0 hc1 x0 x1 x2 x3 xs0) = newCnt x0 x1 (blk0 xs0) := by
  unfold sout0_B_0 kernelRun0_B
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk0
  exact ((ld_read_writes_of_disjoint _ _ R32 R0 _ _ disj_32_0).trans ((ld_read_writes_of_disjoint _ _ R16 R0 _ _ disj_16_0).trans (ld_read_writes_cons ..)))

/-- A middle point leaves the sums with the point's added. -/
theorem blk16_B (hc0 : ¬cond0_0 i) (hc1 : ¬cond0_1 i) (xs0 : Vec Ideal S48x128 .f32) :
    blk16 (sout0_B_0 c i arg1 harg1 arg2 harg2 arg3 harg3 arg4 harg4 arg5 harg5 arg6 harg6 hc0 hc1 x0 x1 x2 x3 xs0) = newSum x0 x1 (blk16 xs0) := by
  unfold sout0_B_0 kernelRun0_B
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk16
  exact ((ld_read_writes_of_disjoint _ _ R32 R16 _ _ disj_32_16).trans (ld_read_writes_cons ..))

/-- A middle point leaves the correct matches with the point's added. -/
theorem blk32_B (hc0 : ¬cond0_0 i) (hc1 : ¬cond0_1 i) (xs0 : Vec Ideal S48x128 .f32) :
    blk32 (sout0_B_0 c i arg1 harg1 arg2 harg2 arg3 harg3 arg4 harg4 arg5 harg5 arg6 harg6 hc0 hc1 x0 x1 x2 x3 xs0) = newCor x0 x1 x2 x3 (blk32 xs0) := by
  unfold sout0_B_0 kernelRun0_B
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk32
  exact (ld_read_writes_cons ..)

/-- The first point leaves the counts of its own block. -/
theorem blk0_A (hc0 : cond0_0 i) (hc1 : ¬cond0_1 i) :
    blk0 (sout0_A_0 c i arg1 harg1 arg2 harg2 arg3 harg3 arg4 harg4 arg5 harg5 arg6 harg6 hc0 hc1 x0 x1 x2 x3) = newCnt x0 x1 (blk0 (k0_pay2 : FVec Ideal S48x128 .f32)) := by
  unfold sout0_A_0 kernelRun0_A
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk0
  refine (ld_read_writes_of_disjoint _ _ R32 R0 _ _ disj_32_0).trans ((ld_read_writes_of_disjoint _ _ R16 R0 _ _ disj_16_0).trans ((ld_read_writes_cons ..).trans ?_))
  rw [View.readCov_eq_canon', View.canon_cons_unit_zero (S := S48x128) zeros2]
  rfl

/-- The first point leaves the sums of its own block. -/
theorem blk16_A (hc0 : cond0_0 i) (hc1 : ¬cond0_1 i) :
    blk16 (sout0_A_0 c i arg1 harg1 arg2 harg2 arg3 harg3 arg4 harg4 arg5 harg5 arg6 harg6 hc0 hc1 x0 x1 x2 x3) = newSum x0 x1 (blk16 (k0_pay2 : FVec Ideal S48x128 .f32)) := by
  unfold sout0_A_0 kernelRun0_A
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk16
  refine (ld_read_writes_of_disjoint _ _ R32 R16 _ _ disj_32_16).trans ((ld_read_writes_cons ..).trans ?_)
  rw [readCov_of_disjoint _ R0 R16 _ _ disj_16_0.symm, View.readCov_eq_canon', View.canon_cons_unit_zero (S := S48x128) zeros2]
  rfl

/-- The first point leaves the correct matches of its own block. -/
theorem blk32_A (hc0 : cond0_0 i) (hc1 : ¬cond0_1 i) :
    blk32 (sout0_A_0 c i arg1 harg1 arg2 harg2 arg3 harg3 arg4 harg4 arg5 harg5 arg6 harg6 hc0 hc1 x0 x1 x2 x3) = newCor x0 x1 x2 x3 (blk32 (k0_pay2 : FVec Ideal S48x128 .f32)) := by
  unfold sout0_A_0 kernelRun0_A
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  unfold blk32
  refine ((ld_read_writes_cons ..).trans ?_)
  rw [readCov_of_disjoint _ R16 R32 _ _ disj_32_16.symm, readCov_of_disjoint _ R0 R32 _ _ disj_32_0.symm, View.readCov_eq_canon',
    View.canon_cons_unit_zero (S := S48x128) zeros2]
  rfl

/-- The last point's result: the closing computation on the three blocks with the point's added. -/
theorem out_C (hc0 : ¬cond0_0 i) (hc1 : cond0_1 i) (xs0 : Vec Ideal S48x128 .f32) :
    out0_C_4 c i arg1 harg1 arg2 harg2 arg3 harg3 arg4 harg4 arg5 harg5 arg6 harg6 hc0 hc1 x0 x1 x2 x3 xs0
      = (k0_pay48 (F := Ideal) (k0_pay1 (newCnt x0 x1 (blk0 xs0)) (newSum x0 x1 (blk16 xs0)) (newCor x0 x1 x2 x3 (blk32 xs0))) : FVec Ideal S1x1 .f32) := by
  unfold out0_C_4 kernelRun0_C
  dsimp only
  sl_unfold_words
  simp only [View.readAt_eq_ld, harg1.read_unread, harg2.read_unread, harg3.read_unread, harg4.read_unread, harg6.read_unread,
    View.ld_unit_zero (S := S2000x21) zeros2, View.ld_unit_zero (S := S1x16) zeros2, View.ld_unit_zero (S := S2000x1) zeros2]
  rw [View.read_writes_junk_eq_canon, View.canon_unit_zero zeros2]
  rw [readCov_of_disjoint _ R32 R0 _ _ disj_32_0, readCov_of_disjoint _ R16 R0 _ _ disj_16_0, View.readCov_cons_toLoadRect,
    readCov_of_disjoint _ R32 R16 _ _ disj_32_16, View.readCov_cons_toLoadRect, View.readCov_cons_toLoadRect]
  rfl

end Points

end Cert.KernelIdeal.Value

end
-- ==== Proof.Scores.lean ====
/-
  The mathematics of the score, away from any program: per class and bin a number of samples, a sum of scores and a number
  of correct matches, all real numbers; the score made of them; and what the two programs' scalar formulas come to over the
  extended reals when what they are given are such real numbers.
-/
module

public import Idealize.ShloMosaic.Lib.Pointwise
public import Idealize.ShloMosaic.Lib.IdealHost
public import Mathlib.Analysis.SpecialFunctions.Pow.Real
public import Mathlib.Algebra.BigOperators.Fin

@[expose] public section

noncomputable section

namespace Cert.Calib

open Idealize.ShloMosaic

/-! ## Reals among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x y : ℝ) : ((if p then x else y : ℝ) : EReal) = if p then (x : EReal) else (y : EReal) := by
  split <;> rfl

theorem coe_max (x y : ℝ) : ((max x y : ℝ) : EReal) = max (x : EReal) (y : EReal) :=
  (EReal.coe_strictMono.monotone.map_max)

theorem div_coe (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

theorem sqrt_coe {x : ℝ} (hx : 0 ≤ x) : Ideal.sqrt (x : EReal) = ((Real.sqrt x : ℝ) : EReal) := by
  show (if x < 0 then (⊥ : EReal) else (Real.sqrt x : EReal)) = _
  rw [if_neg (not_lt.2 hx)]

/-! ## The constants -/

theorem bits_ten : Ideal.ofBits .f32 0x41200000#32 = ((10 : ℝ) : EReal) := by
  simp [Ideal.ofBits, Ideal.ieee, -EReal.coe_mul]; norm_num

theorem bits_twenty : Ideal.ofBits .f32 0x41A00000#32 = ((20 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

/-- The small constant under the precision's denominator lies below one. -/
theorem bits_eps : ∃ e : ℝ, e ≤ 1 ∧ Ideal.ofBits .f32 0x2B8CBCCC#32 = (e : EReal) := by
  refine ⟨9223372 * (2 ^ 63)⁻¹, by norm_num, ?_⟩
  simp [Ideal.ofBits, Ideal.ieee, -EReal.coe_mul]

theorem pow_half {x : ℝ} (_hx : 0 ≤ x) : Ideal.pow (x : EReal) (Ideal.ofBits .f32 0x3F000000#32) = ((Real.sqrt x : ℝ) : EReal) := by
  rw [bits_half]
  show ((Real.rpow x (1 / 2) : ℝ) : EReal) = _
  rw [Real.sqrt_eq_rpow]; rfl

/-- Edge `j` as both programs compute it: ten equally spaced points from 0, each a mixture of the two ends. -/
theorem edge_value (j : ℕ) (hj : j < 10) :
    Ideal.ofBits .f32 0#32 * (1 - Ideal.div (FloatOps.sitofp (F := Ideal) .f32 (BitVec.ofNat 32 j)) (Ideal.ofBits .f32 0x41200000#32))
      + Ideal.ofBits .f32 0x3F800000#32 * Ideal.div (FloatOps.sitofp (F := Ideal) .f32 (BitVec.ofNat 32 j)) (Ideal.ofBits .f32 0x41200000#32)
      = (((j : ℝ) / 10 : ℝ) : EReal) := by
  have h : (FloatOps.sitofp (F := Ideal) .f32 (BitVec.ofNat 32 j) : EReal) = ((j : ℝ) : EReal) := by
    show (((BitVec.ofNat 32 j).toInt : ℝ) : EReal) = _
    have : (BitVec.ofNat 32 j).toInt = j := by
      rw [BitVec.toInt_eq_toNat_of_lt] <;> simp <;> omega
    rw [this]; norm_cast
  rw [h, bits_ten, div_coe _ (by norm_num), Ideal.ofBits_zero_f32, Ideal.ofBits_one_f32, zero_mul, zero_add, one_mul]

/-! ## The score -/

/-- What a bin adds to its class: nothing when empty, else its share of the samples times the squared gap between its mean
    score and its precision. -/
def term (n s t tot : ℝ) : ℝ := if 0 < n then n / tot * ((s / n - t / n) * (s / n - t / n)) else 0

/-- A class: the sum of its ten bins. -/
def classScore (N S T : Fin 10 → ℝ) : ℝ := ∑ j, term (N j) (S j) (T j) (∑ i, N i)

/-- The score: the square root of the mean over the twenty classes. -/
def score (N S T : Fin 20 → Fin 10 → ℝ) : ℝ := Real.sqrt ((∑ c, classScore (N c) (S c) (T c)) / 20)

theorem term_nonneg (n s t tot : ℝ) (h : n ≤ tot) : 0 ≤ term n s t tot := by
  unfold term
  split
  · rename_i hn
    exact mul_nonneg (div_nonneg hn.le (hn.le.trans h)) (mul_self_nonneg _)
  · exact le_refl _

theorem le_total (N : Fin 10 → ℝ) (hN : ∀ j, 0 ≤ N j) (j : Fin 10) : N j ≤ ∑ i, N i :=
  Finset.single_le_sum (fun i _ => hN i) (Finset.mem_univ j)

theorem classScore_nonneg (N S T : Fin 10 → ℝ) (hN : ∀ j, 0 ≤ N j) : 0 ≤ classScore N S T :=
  Finset.sum_nonneg fun j _ => term_nonneg _ _ _ _ (le_total N hN j)

/-! ## The two programs' formulas for a bin -/

/-- A whole number of samples that is not zero is at least one. -/
def Count (n : ℝ) : Prop := n = 0 ∨ 1 ≤ n

theorem Count.nonneg {n : ℝ} (h : Count n) : 0 ≤ n := by rcases h with h | h <;> linarith

/-- The kernel's formula for a bin. -/
theorem kernel_term (n s t tot : ℝ) (hn : Count n) (ht : n ≤ tot) :
    (if (0 : EReal) < (n : EReal) then
      Ideal.div (n : EReal) (max (tot : EReal) 1)
        * ((Ideal.div (s : EReal) (max (n : EReal) 1) - Ideal.div (t : EReal) (max (n : EReal) (Ideal.ofBits .f32 0x2B8CBCCC#32)))
          * (Ideal.div (s : EReal) (max (n : EReal) 1) - Ideal.div (t : EReal) (max (n : EReal) (Ideal.ofBits .f32 0x2B8CBCCC#32))))
      else 0) = ((term n s t tot : ℝ) : EReal) := by
  obtain ⟨e, he, hb⟩ := bits_eps
  unfold term
  by_cases h : 0 < n
  · have h1 : 1 ≤ n := by rcases hn with h0 | h0 <;> linarith
    rw [if_pos (by exact_mod_cast h), if_pos h, hb, ← EReal.coe_one, ← coe_max, ← coe_max, ← coe_max, max_eq_left h1, max_eq_left (he.trans h1),
      max_eq_left (h1.trans ht), div_coe _ (by linarith), div_coe _ (by linarith), div_coe _ (by linarith), ← EReal.coe_sub, ← EReal.coe_mul, ← EReal.coe_mul]
  · rw [if_neg (by exact_mod_cast h), if_neg h, EReal.coe_zero]

/-- The reference's formula for a bin, of whose `n` samples `m` are matched. -/
theorem reference_term (n s m t tot : ℝ) (hn : Count n) (ht : n ≤ tot) :
    (if (0 : EReal) < (n : EReal) then
      Ideal.div (n : EReal) (tot : EReal)
        * ((Ideal.div (s : EReal) (max (n : EReal) 1)
              - Ideal.div (t : EReal) (max ((t : EReal) + (((n : EReal) - (m : EReal)) + ((m : EReal) - (t : EReal)))) (Ideal.ofBits .f32 0x2B8CBCCC#32)))
          * (Ideal.div (s : EReal) (max (n : EReal) 1)
              - Ideal.div (t : EReal) (max ((t : EReal) + (((n : EReal) - (m : EReal)) + ((m : EReal) - (t : EReal)))) (Ideal.ofBits .f32 0x2B8CBCCC#32))))
      else 0) = ((term n s t tot : ℝ) : EReal) := by
  have hs : (t : EReal) + (((n : EReal) - (m : EReal)) + ((m : EReal) - (t : EReal))) = (n : EReal) := by
    rw [← EReal.coe_sub, ← EReal.coe_sub, ← EReal.coe_add, ← EReal.coe_add]; congr 1; ring
  rw [hs]
  obtain ⟨e, he, hb⟩ := bits_eps
  unfold term
  by_cases h : 0 < n
  · have h1 : 1 ≤ n := by rcases hn with h0 | h0 <;> linarith
    rw [if_pos (by exact_mod_cast h), if_pos h, hb, ← EReal.coe_one, ← coe_max, ← coe_max, max_eq_left h1, max_eq_left (he.trans h1),
      div_coe _ (by linarith), div_coe _ (by linarith), div_coe _ (by linarith), ← EReal.coe_sub, ← EReal.coe_mul, ← EReal.coe_mul]
  · rw [if_neg (by exact_mod_cast h), if_neg h, EReal.coe_zero]

/-! ## Bins as differences of thresholds -/

/-- The score of sample `x` is above the edge `j`. -/
def above (x : EReal) (j : ℕ) : Prop := (((j : ℝ) / 10 : ℝ) : EReal) < x

noncomputable instance (x : EReal) (j : ℕ) : Decidable (above x j) := Classical.propDecidable _

/-- The sample lies in the bin `j`: above its lower edge and not above the next. -/
def inBin (x : EReal) (j : ℕ) : Prop := above x j ∧ ¬ above x (j + 1)

noncomputable instance (x : EReal) (j : ℕ) : Decidable (inBin x j) := Classical.propDecidable _

theorem above_of_le (x : EReal) {i j : ℕ} (h : i ≤ j) (hx : above x j) : above x i := by
  refine lt_of_le_of_lt ?_ hx
  have : (i : ℝ) ≤ j := by exact_mod_cast h
  exact_mod_cast (div_le_div_of_nonneg_right this (by norm_num : (0 : ℝ) ≤ 10))

theorem not_above_ten {x : EReal} (h : x ≤ 1) : ¬ above x 10 := by
  unfold above
  rw [show (((10 : ℕ) : ℝ) / 10 : ℝ) = 1 by norm_num]
  exact not_lt.2 h

/-- The sum of `f` over the samples above the edge `j`. -/
def cumul {n : ℕ} (x : Fin n → EReal) (f : Fin n → ℝ) (j : ℕ) : ℝ := ∑ r, if above (x r) j then f r else 0

/-- The sum of `f` over the samples in the bin `j`. -/
def binSum {n : ℕ} (x : Fin n → EReal) (f : Fin n → ℝ) (j : ℕ) : ℝ := ∑ r, if inBin (x r) j then f r else 0

theorem binSum_eq {n : ℕ} (x : Fin n → EReal) (f : Fin n → ℝ) (j : ℕ) : binSum x f j = cumul x f j - cumul x f (j + 1) := by
  unfold binSum cumul
  rw [← Finset.sum_sub_distrib]
  refine Finset.sum_congr rfl fun r _ => ?_
  by_cases h : above (x r) j <;> by_cases h' : above (x r) (j + 1)
  · simp [inBin, h, h']
  · simp [inBin, h, h']
  · exact absurd (above_of_le _ (Nat.le_succ j) h') h
  · simp [inBin, h, h']

theorem cumul_ten {n : ℕ} (x : Fin n → EReal) (f : Fin n → ℝ) (h : ∀ r, x r ≤ 1) : cumul x f 10 = 0 :=
  Finset.sum_eq_zero fun r _ => if_neg (not_above_ten (h r))

/-- A bin's number of samples is a whole number. -/
theorem binSum_count {n : ℕ} (x : Fin n → EReal) (j : ℕ) : Count (binSum x (fun _ => 1) j) := by
  have h : binSum x (fun _ => 1) j = ((Finset.univ.filter fun r => inBin (x r) j).card : ℝ) := by
    unfold binSum; rw [Finset.sum_ite, Finset.sum_const_zero, add_zero, Finset.sum_const, nsmul_eq_mul, mul_one]
  rw [h]
  rcases Nat.eq_zero_or_pos (Finset.univ.filter fun r => inBin (x r) j).card with h0 | h0
  · left; rw [h0]; norm_num
  · right; exact_mod_cast h0

/-- A sample above an edge and not above one is a real number. -/
theorem coe_of_above {x : EReal} (h : x ≤ 1) {j : ℕ} (hx : above x j) : ((x.toReal : ℝ) : EReal) = x :=
  EReal.coe_toReal (fun e => by rw [e] at h; exact absurd h (not_le.2 (EReal.coe_lt_top 1))) (fun e => by rw [e] at hx; exact absurd hx (by simp [above]))

theorem uitofp_bit (b : BitVec 1) : (FloatOps.uitofp (F := Ideal) .f32 b : EReal) = if b = 1#1 then 1 else 0 := by
  show ((b.toNat : ℝ) : EReal) = _
  rcases BitVec.eq_zero_or_eq_one b with h | h <;> subst h <;> simp

end Cert.Calib

end
-- ==== Proof.KernelBlocks.lean ====
/-
  What the kernel's blocks hold, over the extended reals: the edges that the host computes before the call, and rows
  `2000·t … 2000·t + 1999` of the scores, of the labels and of the match flags at grid point `t`.
-/
module

public import proofs.«01_k».proof.Proof.Gen.KernelIdeal.Value
public import proofs.«01_k».proof.Proof.Scores
public import Idealize.ShloMosaic.Lib.Pointwise
public import Idealize.ShloMosaic.Lib.StableHlo.ReadAt
public import Idealize.ShloMosaic.Lib.StableHlo.Run
public import Idealize.ShloMosaic.Lib.Routing.OpsOne
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arguments -/

/-- The scores on device `c`. -/
def argP : Vec Ideal S500000x21 .f32 := m ((c : Thread nD τ).loc main_arg0)
/-- The labels. -/
def argL : Vec Ideal S500000 .i32 := m ((c : Thread nD τ).loc main_arg1)
/-- The match bits. -/
def argM : Vec Ideal S500000 .i1 := m ((c : Thread nD τ).loc main_arg2)

/-! ## What the host computes before the call -/

/-- The eleven edges put together from the ten computed ones and the last. -/
def cat11 (a : Vec Ideal S10 .f32) (b : Vec Ideal S1 .f32) : Vec Ideal S11 .f32 := concatenate S11 0 [⟨S10, a⟩, ⟨S1, b⟩] concatenates_S10_S1_S11_d0

theorem cat11_fold (h1 h2 h3) : (StableHlo.binary main_call0_v15 main_call0_v16 main_v4
    (fun u v => concatenate S11 0 [⟨S10, u⟩, ⟨S1, v⟩] concatenates_S10_S1_S11_d0) h1 h2 h3 : HloOp τ sig (Elt Ideal))
    = StableHlo.binary main_call0_v15 main_call0_v16 main_v4 cat11 h1 h2 h3 := rfl

/-- The two index words put together. -/
def cat2 (a b : IVec S1 32) : IVec S2 32 := concatenate S2 0 [⟨S1, a⟩, ⟨S1, b⟩] concatenates_S1_S1_S2_d0

theorem cat2_fold (h1 h2 h3) : (StableHlo.binary main_v5 main_v6 main_v7
    ((fun a b => concatenate S2 0 [⟨S1, a⟩, ⟨S1, b⟩] concatenates_S1_S1_S2_d0) : (⟨S1, .i32⟩ : BufTy).Contents (Elt Ideal) →
      (⟨S1, .i32⟩ : BufTy).Contents (Elt Ideal) → (⟨S2, .i32⟩ : BufTy).Contents (Elt Ideal)) h1 h2 h3 : HloOp τ sig (Elt Ideal))
    = StableHlo.binary main_v5 main_v6 main_v7 cat2 h1 h2 h3 := rfl

/-- Column 0 of the reshaped labels. -/
theorem V_v0 (r : Fin 500000) : (V m c main_v0 : Vec Ideal S500000x1 .i32) (ix2 r 0) = argL m c (ix1 r) := by
  unfold V argL
  simp only [hostOps0, hostOps0_1, hostOps0_2, List.flatten_cons, List.flatten_nil, List.append_nil, List.cons_append, List.nil_append,
    StableHlo.TRef.binary, StableHlo.TRef.nullary, StableHlo.TRef.reshape, StableHlo.TRef.unary, StableHlo.TRef.toBuf, StableHlo.TRef.ofBuf, cast_eq]
  after_results_simp
  clean_types
  pointwise

/-- Column 0 of the match flags: one where the bit is set, zero elsewhere. -/
theorem V_v2 (r : Fin 500000) :
    (V m c main_v2 : Vec Ideal S500000x1 .f32) (ix2 r 0) = if argM m c (ix1 r) = 1#1 then (1 : EReal) else 0 := by
  unfold V argM
  simp only [hostOps0, hostOps0_1, hostOps0_2, List.flatten_cons, List.flatten_nil, List.append_nil, List.cons_append, List.nil_append,
    StableHlo.TRef.binary, StableHlo.TRef.nullary, StableHlo.TRef.reshape, StableHlo.TRef.unary, StableHlo.TRef.toBuf, StableHlo.TRef.ofBuf, cast_eq]
  after_results_simp
  clean_types
  pointwise
  exact Calib.uitofp_bit _

/-- Where the updates of the write into row 0 land: update `k` at column `k`. -/
theorem lands_row (k : Fin 11) (r : Fin 1) (e : Fin 16) :
    scatter_S1x16_S2_S11_0_0_01_0.resultIdx? (ValueIdx.ix1 k) (fun _ => 0#32 : IVec S2 32) = some (ValueIdx.ix2 r e) ↔ k.val = e.val := by
  have hkept : scatter_S1x16_S2_S11_0_0_01_0.sKept = [1] := by
    show (S1x16).kept [0] = _
    rfl
  have hwin0 : scatter_S1x16_S2_S11_0_0_01_0.window (ValueIdx.ix1 k) 0 = 0 := by
    unfold ScatterDims.window
    rw [dif_neg (by rw [hkept]; decide)]
  have hwin1 : scatter_S1x16_S2_S11_0_0_01_0.window (ValueIdx.ix1 k) 1 = k.val := by
    unfold ScatterDims.window
    rw [dif_pos (by rw [hkept]; decide)]
    have q : ∀ X : Fin 1, (ValueIdx.ix1 k X).val = k.val := fun X => by
      obtain rfl : X = 0 := Subsingleton.elim _ _
      rfl
    exact q _
  rw [Routing.resultIdx?_ix2, Routing.start_pair _ rfl rfl, Routing.start_pair _ rfl rfl, hwin0, hwin1]
  simp

/-- The row of edges after the write: column `j` holds edge `j`. -/
theorem scatter_row (x : Vec Ideal S1x16 .f32) (u : Vec Ideal S11 .f32) (j : Fin 11) :
    Host.scatter scatter_S1x16_S2_S11_0_0_01_0 (fun _ b => b) x (fun _ => 0#32 : IVec S2 32) u (ValueIdx.ix2 0 ⟨j.val, by omega⟩) = u (ValueIdx.ix1 j) :=
  Routing.scatter_set_hit _ x _ u _ _ (fun k hk => by
    obtain ⟨k', rfl⟩ : ∃ k' : Fin 11, k = ValueIdx.ix1 k' := ⟨k 0, ValueIdx.eq_ix1 k⟩
    rw [lands_row] at hk
    exact congrArg (fun t => u (ValueIdx.ix1 t)) (Fin.ext hk)) (ValueIdx.ix1 j) ((lands_row ..).2 rfl)

/-- Edge `j` is `j / 10`. -/
theorem V_v8 (j : Fin 10) : (V m c main_v8 : Vec Ideal S1x16 .f32) (ix2 0 ⟨j.val, by omega⟩) = (((j.val : ℝ) / 10 : ℝ) : EReal) := by
  unfold V
  simp only [hostOps0, hostOps0_1, hostOps0_2, List.flatten_cons, List.flatten_nil, List.append_nil, List.cons_append, List.nil_append,
    StableHlo.TRef.binary, StableHlo.TRef.nullary, StableHlo.TRef.reshape, StableHlo.TRef.unary, StableHlo.TRef.toBuf, StableHlo.TRef.ofBuf, cast_eq]
  rw [cat11_fold]; rw [cat2_fold]
  after_results_simp
  have hz : cat2 (broadcastInDim S1 ![] bcast_S_S1 (constantI S_ 32 0#32)) (broadcastInDim S1 ![] bcast_S_S1 (constantI S_ 32 0#32))
      = (fun _ => 0#32 : IVec S2 32) := by
    funext i
    obtain ⟨k, rfl⟩ : ∃ k : Fin 2, i = ix1 k := ⟨i 0, ValueIdx.eq_ix1 i⟩
    fin_cases k <;> pointwise [cat2]
  rw [hz]
  refine (scatter_row _ _ ⟨j.val, by omega⟩).trans ?_
  show cat11 _ _ (ix1 _) = _
  clean_types
  pointwise [cat11]
  exact Calib.edge_value j.val j.isLt

/-! ## The blocks -/

/-- The block of rows read at point `t` is block `t`. -/
theorem index_rows : ∀ t : Fin cfg0.N, (win0_1.index t 0 = t.val ∧ win0_1.index t 1 = 0) ∧ (win0_2.index t 0 = t.val ∧ win0_2.index t 1 = 0)
    ∧ (win0_3.index t 0 = t.val ∧ win0_3.index t 1 = 0) ∧ win0_0.index t 0 = 0 ∧ win0_0.index t 1 = 0 := by decide +kernel

/-- The block of edges is the whole row at every point. -/
theorem blockEdges (t : Fin cfg0.N) (j : Fin 10) :
    (iblk m c 0 t : Vec Ideal S1x16 .f32) (ix2 0 ⟨j.val, by omega⟩) = (((j.val : ℝ) / 10 : ℝ) : EReal) := by
  rw [← V_v8 m c j]
  unfold iblk
  rw [View.read_apply]
  show V m c main_v8 _ = V m c main_v8 _
  congr 1
  funext a
  apply Fin.ext
  match a with
  | ⟨0, _⟩ => show win0_0.index t 0 * 1 + 1 * 0 = 0; rw [(index_rows t).2.2.2.1]
  | ⟨1, _⟩ => show win0_0.index t 1 * 16 + 1 * j.val = j.val; rw [(index_rows t).2.2.2.2]; omega

/-- Row `r` of the block of scores is row `2000·t + r`. -/
theorem blockScores (t : Fin cfg0.N) (r : Fin 2000) (l : Fin 21) (h : 2000 * t.val + r.val < 500000) :
    (iblk m c 1 t : Vec Ideal S2000x21 .f32) (ix2 r l) = argP m c (ix2 ⟨2000 * t.val + r.val, h⟩ l) := by
  unfold iblk argP
  rw [View.read_apply]
  show V m c main_arg0 _ = _
  rw [V_main_arg0]
  congr 1
  funext a
  apply Fin.ext
  match a with
  | ⟨0, _⟩ => show win0_1.index t 0 * 2000 + 1 * r.val = 2000 * t.val + r.val; rw [(index_rows t).1.1]; omega
  | ⟨1, _⟩ => show win0_1.index t 1 * 21 + 1 * l.val = l.val; rw [(index_rows t).1.2]; omega

/-- Row `r` of the block of labels is label `2000·t + r`. -/
theorem blockLabels (t : Fin cfg0.N) (r : Fin 2000) (h : 2000 * t.val + r.val < 500000) :
    (iblk m c 2 t : Vec Ideal S2000x1 .i32) (ix2 r 0) = argL m c (ix1 ⟨2000 * t.val + r.val, h⟩) := by
  rw [← V_v0]
  unfold iblk
  rw [View.read_apply]
  show V m c main_v0 _ = V m c main_v0 _
  congr 1
  funext a
  apply Fin.ext
  match a with
  | ⟨0, _⟩ => show win0_2.index t 0 * 2000 + 1 * r.val = 2000 * t.val + r.val; rw [(index_rows t).2.1.1]; omega
  | ⟨1, _⟩ => show win0_2.index t 1 * 1 + 1 * 0 = 0; rw [(index_rows t).2.1.2]

/-- Row `r` of the block of matches is match `2000·t + r` as a number. -/
theorem blockMatches (t : Fin cfg0.N) (r : Fin 2000) (h : 2000 * t.val + r.val < 500000) :
    (iblk m c 3 t : Vec Ideal S2000x1 .f32) (ix2 r 0) = (if argM m c (ix1 ⟨2000 * t.val + r.val, h⟩) = 1#1 then 1 else 0 : EReal) := by
  rw [← V_v2]
  unfold iblk
  rw [View.read_apply]
  show V m c main_v2 _ = V m c main_v2 _
  congr 1
  funext a
  apply Fin.ext
  match a with
  | ⟨0, _⟩ => show win0_3.index t 0 * 2000 + 1 * r.val = 2000 * t.val + r.val; rw [(index_rows t).2.2.1.1]; omega
  | ⟨1, _⟩ => show win0_3.index t 1 * 1 + 1 * 0 = 0; rw [(index_rows t).2.2.1.2]

end Cert.KernelIdeal.Value
-- ==== Proof.KernelAcc.lean ====
/-
The accumulator after the last point: for every edge and every column, the number of rows above the edge, the sum of their
scores, and the number of matched rows of the column's class among them, each as a sum over all 500000 rows.
-/

module

public import proofs.«01_k».proof.Proof.KernelStep
public import proofs.«01_k».proof.Proof.KernelBlocks

@[expose] public section

noncomputable section

namespace Cert.KernelIdeal.Value

open Cert.KernelIdeal Cert.KernelIdeal.Gen Idealize.ShloMosaic Idealize.ShloMosaic.TcCoe Idealize.SL.Sem Calib

/-! ## Sums over the rows seen so far -/

/-- The sum of `q` over the first `k` rows. -/
def upto (q : Fin 500000 → EReal) (k : ℕ) : EReal := ∑ i ∈ Finset.range k, if h : i < 500000 then q ⟨i, h⟩ else 0

theorem upto_zero (q : Fin 500000 → EReal) : upto q 0 = 0 := Finset.sum_range_zero _

theorem upto_all (q : Fin 500000 → EReal) : upto q 500000 = ∑ i, q i := by
  unfold upto
  rw [Finset.sum_range]
  exact Finset.sum_congr rfl fun i _ => dif_pos i.isLt

theorem upto_step (q : Fin 500000 → EReal) (n : ℕ) (hn : n < 250) :
    upto q (2000 * n) + ∑ r : Fin 2000, q ⟨2000 * n + r.val, by omega⟩ = upto q (2000 * (n + 1)) := by
  unfold upto
  rw [Nat.mul_succ, Finset.sum_range_add, Finset.sum_range (fun x => if h : 2000 * n + x < 500000 then q ⟨2000 * n + x, h⟩ else 0)]
  congr 1
  refine Finset.sum_congr rfl fun r _ => ?_
  rw [dif_pos (show 2000 * n + r.val < 500000 by omega)]

variable (m : (ℓ : Loc nD τ sig) → Buf (Elt Ideal) ℓ) (c : Dev nD)

/-- Two sums of a row's parts are equal where the parts are. -/
theorem if_same {a b a' b' : EReal} {p : Prop} [Decidable p] (i : ℕ) (x : EReal) (h : p ↔ above x i) (ha : a = a') (hb : b = b') :
    (if p then a else b) = if above x i then a' else b' := by
  rw [ha, hb]
  exact if_congr h rfl rfl

/-- What row `i` adds to the count of column `l` above edge `j`. -/
def cellN (j : Fin 10) (l : Fin 21) (i : Fin 500000) : EReal := if above (argP m c (ix2 i l)) j.val then 1 else 0

/-- What row `i` adds to the sum of scores of column `l` above edge `j`. -/
def cellS (j : Fin 10) (l : Fin 21) (i : Fin 500000) : EReal := if above (argP m c (ix2 i l)) j.val then argP m c (ix2 i l) else 0

/-- What row `i` adds to the matched count of column `l` above edge `j`. -/
def cellT (j : Fin 10) (l : Fin 21) (i : Fin 500000) : EReal :=
  if above (argP m c (ix2 i l)) j.val then
    (if argL m c (ix1 i) = BitVec.ofNat 32 l.val then (if argM m c (ix1 i) = 1#1 then 1 else 0) else 0) else 0

theorem point_lt (t : Fin cfg0.N) : t.val < 250 := lt_of_lt_of_eq t.isLt N_0

theorem row_lt (t : Fin cfg0.N) (r : Fin 2000) : 2000 * t.val + r.val < 500000 := by
  have := point_lt t
  omega

theorem partN (t : Fin cfg0.N) (s : Vec Ideal S10x21 .f32) (j : Fin 10) (l : Fin 21) :
    newCnt (iblk m c 0 t) (iblk m c 1 t) s (ix2 j l) = s (ix2 j l) + ∑ r : Fin 2000, cellN m c j l ⟨2000 * t.val + r.val, row_lt t r⟩ := by
  refine (newCnt_apply (iblk m c 0 t) (iblk m c 1 t) s j l).trans ?_
  refine congrArg (fun z => s (ix2 j l) + z) (Finset.sum_congr rfl fun r _ => ?_)
  rw [blockEdges m c t j, blockScores m c t r l (row_lt t r)]
  exact if_same j.val _ Iff.rfl rfl rfl

theorem stepN (t : Fin cfg0.N) (s : Vec Ideal S10x21 .f32) (j : Fin 10) (l : Fin 21) (hs : s (ix2 j l) = upto (cellN m c j l) (2000 * t.val)) :
    newCnt (iblk m c 0 t) (iblk m c 1 t) s (ix2 j l) = upto (cellN m c j l) (2000 * (t.val + 1)) :=
  (partN m c t s j l).trans ((congrArg (fun z => z + _) hs).trans (upto_step (cellN m c j l) t.val (point_lt t)))

theorem partS (t : Fin cfg0.N) (s : Vec Ideal S10x21 .f32) (j : Fin 10) (l : Fin 21) :
    newSum (iblk m c 0 t) (iblk m c 1 t) s (ix2 j l) = s (ix2 j l) + ∑ r : Fin 2000, cellS m c j l ⟨2000 * t.val + r.val, row_lt t r⟩ := by
  refine (newSum_apply (iblk m c 0 t) (iblk m c 1 t) s j l).trans ?_
  refine congrArg (fun z => s (ix2 j l) + z) (Finset.sum_congr rfl fun r _ => ?_)
  rw [blockEdges m c t j, blockScores m c t r l (row_lt t r)]
  exact if_same j.val _ Iff.rfl rfl rfl

theorem stepS (t : Fin cfg0.N) (s : Vec Ideal S10x21 .f32) (j : Fin 10) (l : Fin 21) (hs : s (ix2 j l) = upto (cellS m c j l) (2000 * t.val)) :
    newSum (iblk m c 0 t) (iblk m c 1 t) s (ix2 j l) = upto (cellS m c j l) (2000 * (t.val + 1)) :=
  (partS m c t s j l).trans ((congrArg (fun z => z + _) hs).trans (upto_step (cellS m c j l) t.val (point_lt t)))

theorem partT (t : Fin cfg0.N) (s : Vec Ideal S10x21 .f32) (j : Fin 10) (l : Fin 21) :
    newCor (iblk m c 0 t) (iblk m c 1 t) (iblk m c 2 t) (iblk m c 3 t) s (ix2 j l) = s (ix2 j l) + ∑ r : Fin 2000, cellT m c j l ⟨2000 * t.val + r.val, row_lt t r⟩ := by
  refine (newCor_apply (iblk m c 0 t) (iblk m c 1 t) (iblk m c 2 t) (iblk m c 3 t) s j l).trans ?_
  refine congrArg (fun z => s (ix2 j l) + z) (Finset.sum_congr rfl fun r _ => ?_)
  rw [blockEdges m c t j, blockScores m c t r l (row_lt t r), blockLabels m c t r (row_lt t r), blockMatches m c t r (row_lt t r)]
  exact if_same j.val _ Iff.rfl rfl rfl

theorem stepT (t : Fin cfg0.N) (s : Vec Ideal S10x21 .f32) (j : Fin 10) (l : Fin 21) (hs : s (ix2 j l) = upto (cellT m c j l) (2000 * t.val)) :
    newCor (iblk m c 0 t) (iblk m c 1 t) (iblk m c 2 t) (iblk m c 3 t) s (ix2 j l) = upto (cellT m c j l) (2000 * (t.val + 1)) :=
  (partT m c t s j l).trans ((congrArg (fun z => z + _) hs).trans (upto_step (cellT m c j l) t.val (point_lt t)))

/-! ## Along the points -/

theorem zero_cell (s : Vec Ideal S10x21 .f32) (hs : s = blk0 (k0_pay2 : FVec Ideal S48x128 .f32) ∨ s = blk16 (k0_pay2 : FVec Ideal S48x128 .f32)
    ∨ s = blk32 (k0_pay2 : FVec Ideal S48x128 .f32)) (j : Fin 10) (l : Fin 21) : s (ix2 j l) = 0 := by
  rcases hs with h | h | h <;> rw [h] <;> exact Ideal.ofBits_zero .f32

/-- After point `n`, not the last: the three sums over the rows of the points `0` to `n`. -/
theorem acc (n : ℕ) (hn : n < cfg0.N) (h : n < 249) (j : Fin 10) (l : Fin 21) :
    blk0 (outsAt0 m c n hn).2 (ix2 j l) = upto (cellN m c j l) (2000 * (n + 1))
      ∧ blk16 (outsAt0 m c n hn).2 (ix2 j l) = upto (cellS m c j l) (2000 * (n + 1))
      ∧ blk32 (outsAt0 m c n hn).2 (ix2 j l) = upto (cellT m c j l) (2000 * (n + 1)) := by
  induction n with
  | zero =>
    have e := outsAt0_A m c ⟨0, hn⟩ rfl (by show ¬ 0 % 250 = 249; decide)
    dsimp only at e
    rw [e]
    dsimp only
    rw [blk0_A, blk16_A, blk32_A]
    exact ⟨stepN m c ⟨0, hn⟩ _ j l ((zero_cell _ (Or.inl rfl) j l).trans (upto_zero _).symm),
      stepS m c ⟨0, hn⟩ _ j l ((zero_cell _ (Or.inr (Or.inl rfl)) j l).trans (upto_zero _).symm),
      stepT m c ⟨0, hn⟩ _ j l ((zero_cell _ (Or.inr (Or.inr rfl)) j l).trans (upto_zero _).symm)⟩
  | succ n ih =>
    obtain ⟨i0, i1, i2⟩ := ih (Nat.lt_of_succ_lt hn) (by omega)
    have e := outsAt0_B m c ⟨n + 1, hn⟩ (by show ¬ (n + 1) % 250 = 0; omega) (by show ¬ (n + 1) % 250 = 249; omega)
    dsimp only at e
    rw [e]
    dsimp only
    rw [blk0_B, blk16_B, blk32_B]
    exact ⟨stepN m c ⟨n + 1, hn⟩ _ j l i0, stepS m c ⟨n + 1, hn⟩ _ j l i1, stepT m c ⟨n + 1, hn⟩ _ j l i2⟩

/-- What the last point writes: the epilogue of three arrays that hold the three sums over all rows. -/
theorem result_parts : ∃ cnt sp tp : FVec Ideal S10x21 .f32,
    G4 m c = (k0_pay48 (F := Ideal) (k0_pay1 cnt sp tp) : FVec Ideal S1x1 .f32)
      ∧ (∀ j l, cnt (ix2 j l) = ∑ i, cellN m c j l i) ∧ (∀ j l, sp (ix2 j l) = ∑ i, cellS m c j l i)
      ∧ (∀ j l, tp (ix2 j l) = ∑ i, cellT m c j l i) := by
  have hN : (249 : ℕ) < cfg0.N := lt_of_lt_of_eq (by decide) N_0.symm
  have a := acc m c 248 (lt_of_lt_of_eq (by decide) N_0.symm) (by decide)
  refine ⟨_, _, _, ?_, fun j l => (stepN m c ⟨249, hN⟩ _ j l (a j l).1).trans (upto_all _),
    fun j l => (stepS m c ⟨249, hN⟩ _ j l (a j l).2.1).trans (upto_all _), fun j l => (stepT m c ⟨249, hN⟩ _ j l (a j l).2.2).trans (upto_all _)⟩
  rw [G4_last, ← outsAt0_sweep m c 249 hN]
  have e := outsAt0_C m c ⟨249, hN⟩ (by show ¬ 249 % 250 = 0; decide) rfl
  dsimp only at e
  rw [e]
  dsimp only
  rw [out_C]

end Cert.KernelIdeal.Value

end
-- ==== Proof.KernelEpilogue.lean ====
/-
The kernel's last step: from the three arrays of sums above the edges to the score. The count of a bin is the count above
its edge less the count above the next; the last bin is what lies above the last edge.
-/

module

public import proofs.«01_k».proof.Proof.KernelAcc
public import Idealize.ShloMosaic.Lib.Pointwise

@[expose] public section

noncomputable section

namespace Cert.KernelIdeal.Value

open Cert.KernelIdeal Cert.KernelIdeal.Gen Idealize.ShloMosaic Idealize.ShloMosaic.TcCoe Idealize.SL.Sem Calib

/-- A bin's term as the kernel computes it. -/
def kbin (n s t tot : EReal) : EReal :=
  if (0 : EReal) < n then
    Ideal.div n (max tot 1)
      * ((Ideal.div s (max n 1) - Ideal.div t (max n (Ideal.ofBits .f32 0x2B8CBCCC#32)))
        * (Ideal.div s (max n 1) - Ideal.div t (max n (Ideal.ofBits .f32 0x2B8CBCCC#32))))
  else 0

/-- A class's number of samples as the kernel computes it: bin by bin from the counts above the edges. -/
def ktot (C : Fin 10 → EReal) : EReal :=
  (∑ x : Fin 9, (C ⟨x.val, by omega⟩ - C ⟨1 + x.val, by omega⟩)) + ∑ _x : Fin 1, C 9

/-- A class's sum of terms as the kernel computes it. -/
def kclass (C S T : Fin 10 → EReal) : EReal :=
  (∑ x : Fin 9, kbin (C ⟨x.val, by omega⟩ - C ⟨1 + x.val, by omega⟩) (S ⟨x.val, by omega⟩ - S ⟨1 + x.val, by omega⟩)
      (T ⟨x.val, by omega⟩ - T ⟨1 + x.val, by omega⟩) (ktot C))
    + ∑ _x : Fin 1, kbin (C 9) (S 9) (T 9) (ktot C)

theorem ktot_eq (C : ℕ → ℝ) (h : C 10 = 0) : ktot (fun j => (C j.val : EReal)) = ((∑ j : Fin 10, (C j.val - C (j.val + 1)) : ℝ) : EReal) := by
  unfold ktot
  rw [coe_sum, Fin.sum_univ_one]
  refine Eq.trans ?_ (Fin.sum_univ_castSucc (fun j : Fin 10 => ((C j.val - C (j.val + 1) : ℝ) : EReal))).symm
  refine congrArg₂ (· + ·) (Finset.sum_congr rfl fun x _ => ?_) ?_
  · show (C x.val : EReal) - (C (1 + x.val) : EReal) = ((C x.val - C (x.val + 1) : ℝ) : EReal)
    rw [EReal.coe_sub, Nat.add_comm 1 x.val]
  · show ((C 9 : ℝ) : EReal) = ((C 9 - C 10 : ℝ) : EReal)
    rw [h, sub_zero]

/-- A class's sum of terms is the class's score. -/
theorem kclass_eq (C S T : ℕ → ℝ) (hC : C 10 = 0) (hS : S 10 = 0) (hT : T 10 = 0) (hn : ∀ j : Fin 10, Count (C j.val - C (j.val + 1))) :
    kclass (fun j => (C j.val : EReal)) (fun j => (S j.val : EReal)) (fun j => (T j.val : EReal))
      = ((classScore (fun j => C j.val - C (j.val + 1)) (fun j => S j.val - S (j.val + 1)) (fun j => T j.val - T (j.val + 1)) : ℝ) : EReal) := by
  have key : ∀ j : Fin 10, kbin ((C j.val - C (j.val + 1) : ℝ) : EReal) ((S j.val - S (j.val + 1) : ℝ) : EReal) ((T j.val - T (j.val + 1) : ℝ) : EReal)
      ((∑ i : Fin 10, (C i.val - C (i.val + 1)) : ℝ) : EReal)
      = ((term (C j.val - C (j.val + 1)) (S j.val - S (j.val + 1)) (T j.val - T (j.val + 1)) (∑ i : Fin 10, (C i.val - C (i.val + 1))) : ℝ) : EReal) :=
    fun j => kernel_term _ _ _ _ (hn j) (Finset.single_le_sum (f := fun i : Fin 10 => C i.val - C (i.val + 1)) (fun i _ => (hn i).nonneg) (Finset.mem_univ j))
  unfold kclass classScore
  rw [coe_sum, Fin.sum_univ_castSucc (M := EReal) (n := 9), Fin.sum_univ_one, ktot_eq C hC]
  congr 1
  · refine Finset.sum_congr rfl fun x _ => ?_
    refine Eq.trans ?_ (key x.castSucc)
    rw [EReal.coe_sub, EReal.coe_sub, EReal.coe_sub]
    show kbin ((C x.val : EReal) - (C (1 + x.val) : EReal)) ((S x.val : EReal) - (S (1 + x.val) : EReal)) ((T x.val : EReal) - (T (1 + x.val) : EReal)) _ = _
    rw [Nat.add_comm 1 x.val]
    rfl
  · refine Eq.trans ?_ (key 9)
    show kbin (C 9 : EReal) (S 9 : EReal) (T 9 : EReal) _ = kbin ((C 9 - C 10 : ℝ) : EReal) ((S 9 - S 10 : ℝ) : EReal) ((T 9 - T 10 : ℝ) : EReal) _
    rw [hC, hS, hT, sub_zero, sub_zero, sub_zero]

theorem lane_on : ∀ i : Fin 20, IntOp.cmpi .slt (BitVec.ofNat 32 i.castSucc.val) 20#32 = 1#1 := by decide

theorem lane_off : IntOp.cmpi .slt (BitVec.ofNat 32 (Fin.last 20).val) 20#32 = 0#1 := by decide

theorem epilogue (cnt sp tp : FVec Ideal S10x21 .f32) (C S T : Fin 20 → ℕ → ℝ)
    (hc : ∀ (l : Fin 20) (j : Fin 10), cnt (ix2 j l.castSucc) = (C l j.val : EReal))
    (hs : ∀ (l : Fin 20) (j : Fin 10), sp (ix2 j l.castSucc) = (S l j.val : EReal))
    (ht : ∀ (l : Fin 20) (j : Fin 10), tp (ix2 j l.castSucc) = (T l j.val : EReal))
    (hc10 : ∀ l, C l 10 = 0) (hs10 : ∀ l, S l 10 = 0) (ht10 : ∀ l, T l 10 = 0)
    (hn : ∀ l (j : Fin 10), Count (C l j.val - C l (j.val + 1))) :
    (k0_pay48 (F := Ideal) (k0_pay1 cnt sp tp) : FVec Ideal S1x1 .f32) (ix2 0 0)
      = ((score (fun l j => C l j.val - C l (j.val + 1)) (fun l j => S l j.val - S l (j.val + 1)) (fun l j => T l j.val - T l (j.val + 1)) : ℝ) : EReal) := by
  pointwise [k0_pay48, k0_pay1]
  rw [Fin.sum_univ_castSucc]
  have hcl : ∀ l : Fin 20, kclass (fun j => cnt (ix2 j l.castSucc)) (fun j => sp (ix2 j l.castSucc)) (fun j => tp (ix2 j l.castSucc))
      = ((classScore (fun j => C l j.val - C l (j.val + 1)) (fun j => S l j.val - S l (j.val + 1)) (fun j => T l j.val - T l (j.val + 1)) : ℝ) : EReal) := fun l => by
    rw [funext (hc l), funext (hs l), funext (ht l)]
    exact kclass_eq _ _ _ (hc10 l) (hs10 l) (ht10 l) (hn l)
  show Ideal.sqrt (Ideal.div ((∑ l : Fin 20, Scalar.select (IntOp.cmpi .slt (BitVec.ofNat 32 l.castSucc.val) 20#32)
      (Ideal.sqrt (kclass (fun j => cnt (ix2 j l.castSucc)) (fun j => sp (ix2 j l.castSucc)) (fun j => tp (ix2 j l.castSucc)))
        * Ideal.sqrt (kclass (fun j => cnt (ix2 j l.castSucc)) (fun j => sp (ix2 j l.castSucc)) (fun j => tp (ix2 j l.castSucc)))) (0 : EReal))
    + Scalar.select (IntOp.cmpi .slt (BitVec.ofNat 32 (Fin.last 20).val) 20#32)
      (Ideal.sqrt (kclass (fun j => cnt (ix2 j (Fin.last 20))) (fun j => sp (ix2 j (Fin.last 20))) (fun j => tp (ix2 j (Fin.last 20))))
        * Ideal.sqrt (kclass (fun j => cnt (ix2 j (Fin.last 20))) (fun j => sp (ix2 j (Fin.last 20))) (fun j => tp (ix2 j (Fin.last 20))))) (0 : EReal))
    (Ideal.ofBits .f32 1101004800#32)) = _
  have hterm : ∀ l : Fin 20, Scalar.select (IntOp.cmpi .slt (BitVec.ofNat 32 l.castSucc.val) 20#32)
      (Ideal.sqrt (kclass (fun j => cnt (ix2 j l.castSucc)) (fun j => sp (ix2 j l.castSucc)) (fun j => tp (ix2 j l.castSucc)))
        * Ideal.sqrt (kclass (fun j => cnt (ix2 j l.castSucc)) (fun j => sp (ix2 j l.castSucc)) (fun j => tp (ix2 j l.castSucc)))) (0 : EReal)
      = ((classScore (fun j => C l j.val - C l (j.val + 1)) (fun j => S l j.val - S l (j.val + 1)) (fun j => T l j.val - T l (j.val + 1)) : ℝ) : EReal) := fun l => by
    have h0 := classScore_nonneg (fun j => C l j.val - C l (j.val + 1)) (fun j => S l j.val - S l (j.val + 1)) (fun j => T l j.val - T l (j.val + 1))
      (fun j => (hn l j).nonneg)
    rw [lane_on, hcl l, sqrt_coe h0, ← EReal.coe_mul, Real.mul_self_sqrt h0]
    rfl
  rw [Finset.sum_congr rfl fun l _ => hterm l, lane_off]
  show Ideal.sqrt (Ideal.div (_ + 0) _) = _
  rw [add_zero, ← coe_sum, bits_twenty, div_coe _ (by norm_num), sqrt_coe]
  · rfl
  · exact div_nonneg (Finset.sum_nonneg fun l _ => classScore_nonneg _ _ _ fun j => (hn l j).nonneg) (by norm_num)

/-- A count of rows is a whole number and what is summed above an edge a real one, where no score is above one. -/
theorem kernel_result (m : (ℓ : Loc nD τ sig) → Buf (Elt Ideal) ℓ) (c : Dev nD)
    (h1 : ∀ (i : Fin 500000) (l : Fin 20), argP m c (ix2 i l.castSucc) ≤ 1) :
    G4 m c (ix2 0 0) = ((score
      (fun l j => binSum (fun i => argP m c (ix2 i l.castSucc)) (fun _ => 1) j.val)
      (fun l j => binSum (fun i => argP m c (ix2 i l.castSucc)) (fun i => (argP m c (ix2 i l.castSucc)).toReal) j.val)
      (fun l j => binSum (fun i => argP m c (ix2 i l.castSucc))
        (fun i => if argL m c (ix1 i) = BitVec.ofNat 32 l.val then (if argM m c (ix1 i) = 1#1 then 1 else 0) else 0) j.val) : ℝ) : EReal) := by
  obtain ⟨cnt, sp, tp, e, hc, hs, ht⟩ := result_parts m c
  rw [e]
  simp only [binSum_eq]
  refine epilogue cnt sp tp _ _ _ (fun l j => ?_) (fun l j => ?_) (fun l j => ?_) (fun l => cumul_ten _ _ fun i => h1 i l)
    (fun l => cumul_ten _ _ fun i => h1 i l) (fun l => cumul_ten _ _ fun i => h1 i l) (fun l j => ?_)
  · rw [hc, cumul, coe_sum]
    refine Finset.sum_congr rfl fun i _ => ?_
    unfold cellN
    split <;> simp
  · rw [hs, cumul, coe_sum]
    refine Finset.sum_congr rfl fun i _ => ?_
    unfold cellS
    split
    · rename_i ha
      exact (coe_of_above (h1 i l) ha).symm
    · simp
  · rw [ht, cumul, coe_sum]
    refine Finset.sum_congr rfl fun i _ => ?_
    unfold cellT
    show (if _ then (if argL m c (ix1 i) = BitVec.ofNat 32 l.val then _ else _) else _) = _
    split <;> [(split <;> [(split <;> simp); simp]); simp]
  · rw [← binSum_eq]
    exact binSum_count _ _

end Cert.KernelIdeal.Value

end
-- ==== Proof.RefBins.lean ====
/-
The reference's bins: the number of edges below a score less one is the number of the score's bin, the flat number of a
bin is ten times its class plus the bin, and a sum scattered to the flat numbers is, at every class and bin, the sum over the
samples in the bin.
-/

module

public import proofs.«01_k».proof.Proof.Gen.ReferenceIdeal.Run
public import proofs.«01_k».proof.Proof.Scores
public import Idealize.ShloMosaic.Lib.Pointwise
public import Idealize.ShloMosaic.Lib.Tactic
public import Idealize.ShloMosaic.Lib.Routing.OpsPair
public import Idealize.ShloMosaic.Lib.Pipeline.ValueKit.Acc

@[expose] public section

noncomputable section

namespace Cert.ReferenceIdeal.Value

open Cert.ReferenceIdeal Cert.ReferenceIdeal.Gen Idealize.ShloMosaic Idealize.ShloMosaic.TcCoe Idealize.SL.Sem Calib

/-! ## The bin of a score -/

/-- A sum of ones by 32-bit additions is the number of the ones. -/
theorem fold_count {ι : Type} [DecidableEq ι] (s : Finset ι) (p : ι → Bool) :
    Finset.fold IntOp.addi 0#32 (fun i => BitVec.setWidth 32 (BitVec.ofBool (p i))) s = BitVec.ofNat 32 (s.filter fun i => p i = true).card := by
  induction s using Finset.induction_on with
  | empty => rfl
  | insert a s ha ih =>
    rw [Finset.fold_insert ha, ih, Finset.filter_insert]
    cases h : p a
    · rw [if_neg (by simp)]
      show BitVec.setWidth 32 (BitVec.ofBool false) + _ = _
      rw [show BitVec.setWidth 32 (BitVec.ofBool false) = 0#32 from rfl, BitVec.zero_add]
    · rw [if_pos rfl, Finset.card_insert_of_notMem (fun h' => ha (Finset.mem_filter.1 h').1), Nat.add_comm, BitVec.ofNat_add]
      rfl

/-- The number of edges below a score. -/
def below (x : EReal) : ℕ := (Finset.univ.filter fun j : Fin 11 => above x j.val).card

/-- The edges below a score not above one are the first `below x` ones. -/
theorem above_iff {x : EReal} (h : x ≤ 1) (j : ℕ) : above x j ↔ j < below x := by
  have hex : ∃ k, ¬ above x k := ⟨10, not_above_ten h⟩
  classical
  have key : ∀ i, above x i ↔ i < Nat.find hex := fun i =>
    ⟨fun hi => by
      by_contra hc
      exact Nat.find_spec hex (above_of_le x (not_lt.1 hc) hi),
     fun hi => not_not.1 (Nat.find_min hex hi)⟩
  have hk : Nat.find hex ≤ 10 := Nat.find_min' hex (not_above_ten h)
  have e : below x = Nat.find hex := by
    unfold below
    rw [Finset.filter_congr (q := fun j : Fin 11 => j.val < Nat.find hex) fun j _ => key j.val]
    generalize Nat.find hex = k at hk
    interval_cases k <;> decide
  rw [e]
  exact key j

theorem below_le {x : EReal} (h : x ≤ 1) : below x ≤ 10 := by
  by_contra hc
  exact not_above_ten h ((above_iff h 10).2 (not_le.1 hc))

/-- The bin of a score is the number of edges below it less one. -/
theorem inBin_iff {x : EReal} (h : x ≤ 1) (b : ℕ) : inBin x b ↔ below x = b + 1 := by
  unfold inBin
  rw [above_iff h, above_iff h]
  omega

/-- The flat number as the reference computes it from the count of edges `k` and the class `c`. -/
def flatWord (k c : BitVec 32) : BitVec 32 :=
  Scalar.select (IntOp.cmpi .sge (IntOp.subi k 1#32) 0#32) (IntOp.addi (IntOp.muli c 10#32) (IntOp.subi k 1#32)) 200#32

/-- The same, a negative number counted from the end. -/
def flatIndex (k c : BitVec 32) : BitVec 32 :=
  Scalar.select (IntOp.cmpi .slt (flatWord k c) 0#32) (IntOp.addi (flatWord k c) 201#32) (flatWord k c)

theorem flatIndex_val : ∀ (k : Fin 11) (c : Fin 20),
    (flatIndex (BitVec.ofNat 32 k.val) (BitVec.ofNat 32 c.val)).toInt = if k.val = 0 then 200 else 10 * (c.val : Int) + k.val - 1 := by
  decide +kernel

/-- A sample goes to class `c` and bin `b` exactly where its class is `c` and its score in the bin. -/
theorem flat_iff {x : EReal} (h : x ≤ 1) (c' c : Fin 20) (b : Fin 10) :
    (flatIndex (BitVec.ofNat 32 (below x)) (BitVec.ofNat 32 c'.val)).toInt = ((10 * c.val + b.val : ℕ) : Int) ↔ c' = c ∧ inBin x b.val := by
  have hb := below_le h
  rw [flatIndex_val ⟨below x, by omega⟩ c', inBin_iff h, Fin.ext_iff]
  dsimp only
  have := c.isLt
  have := c'.isLt
  have := b.isLt
  split <;> omega

/-! ## The reference's arrays -/

variable (L : Valuation τ sig (Elt Ideal))

/-- The scores, the labels and the matches of the samples. -/
def argP : Vec Ideal S500000x21 .f32 := L (Proc.devRef .tc main_arg0)
def argL : Vec Ideal S500000 .i32 := L (Proc.devRef .tc main_arg1)
def argM : Vec Ideal S500000 .i1 := L (Proc.devRef .tc main_arg2)

/-- The column of flat numbers that every scatter reads. -/
def flat : IVec S10000000x1 32 :=
  broadcastInDim S10000000x1 ![0] bcast_S10000000_S10000000x1_0 (select (cmpi .slt (res_main_v20 L) (broadcastInDim S10000000 ![] bcast_S_S10000000 (constantI S_ 32 0#32))) (addi (res_main_v20 L) (broadcastInDim S10000000 ![] bcast_S_S10000000 (constantI S_ 32 201#32))) (res_main_v20 L))

/-- The sums of `u` by class and bin. -/
def binned (u : FVec Ideal S10000000 .f32) : FVec Ideal S20x10 .f32 :=
  shapeCast _ (extractStridedSlice S200 ![0] (Host.scatterAdd scatter_S201_S10000000x1_S10000000_n_0_0_1 (broadcastInDim S201 ![] bcast_S_S201 (constant S_ .f32 0x00000000#32)) (flat L) u) slices_S201_S200_0) shapeCasts_S200_S20x10

theorem v10_apply (n : Fin 500000) (c : Fin 20) :
    res_main_v10 L (ix2 n c) = IntOp.subi (BitVec.ofNat 32 (below (argP L (ix2 n c.castSucc)))) 1#32 := by
  pointwise [res_main_v10, res_main_call0_v0, res_main_call0_v6, res_main_call0_v1, res_main_v1]
  rw [fold_count]
  refine congrArg (fun k => IntOp.subi (BitVec.ofNat 32 k) 1#32) (congrArg Finset.card (Finset.filter_congr fun j _ => ?_))
  rw [decide_eq_true_iff]
  unfold above
  refine iff_of_eq (congrArg (fun z => z < argP L (ix2 n c.castSucc)) ?_)
  split
  · rename_i hj
    exact edge_value j.val hj
  · have hj : j.val = 10 := by omega
    show Ideal.ofBits .f32 0x3F800000#32 = _
    rw [hj]
    simp [Ideal.ofBits, Ideal.ieee, -EReal.coe_mul]
    norm_num

theorem flat_apply (n : Fin 500000) (c : Fin 20) (h : n.val * 20 + c.val < 10000000) :
    flat L (ix2 ⟨n.val * 20 + c.val, h⟩ 0) = flatIndex (BitVec.ofNat 32 (below (argP L (ix2 n c.castSucc)))) (BitVec.ofNat 32 c.val) := by
  pointwise [flat, res_main_v20, res_main_v14]
  rw [v10_apply]
  rfl

/-! ## The scattered sums -/

theorem scatter_start (k : Fin 10000000) (idx : IVec S10000000x1 32) :
    scatter_S201_S10000000x1_S10000000_n_0_0_1.start (ix1 k : S10000000.Idx) idx 0 = (idx (ix2 k 0)).toInt := by
  unfold ScatterDims.start
  rw [dif_pos (by exact List.mem_singleton.2 rfl)]
  congr 2
  funext b
  match b with
  | ⟨0, _⟩ =>
    unfold ScatterDims.siIdx
    rw [dif_neg (by show ¬ (0 : ℕ) = 1; decide)]
    rfl
  | ⟨1, _⟩ => exact Subsingleton.elim (α := Fin 1) _ _

theorem scatter_window (k : Fin 10000000) : scatter_S201_S10000000x1_S10000000_n_0_0_1.window (ix1 k : S10000000.Idx) 0 = 0 := by
  unfold ScatterDims.window
  rw [dif_neg]
  exact fun h => (of_decide_eq_true (List.mem_filter.1 h).2) (List.mem_singleton.2 rfl)

/-- The sample `k` is added where its flat number says. -/
theorem scatter_lands (k : Fin 10000000) (idx : IVec S10000000x1 32) (e : Fin 201) :
    scatter_S201_S10000000x1_S10000000_n_0_0_1.resultIdx? (ix1 k : S10000000.Idx) idx = some (ix1 e : S201.Idx) ↔ (idx (ix2 k 0)).toInt = (e.val : Int) := by
  refine (Routing.resultIdx?_ix1 (N := 201) scatter_S201_S10000000x1_S10000000_n_0_0_1 (ix1 k) idx e).trans ?_
  rw [scatter_start, scatter_window]
  simp

/-- A scattered sum, element by element. -/
theorem scatterAdd_apply {s si su : Shape} (d : ScatterDims s si su) (x : FVec Ideal s .f32) (idx : IVec si 32) (u : FVec Ideal su .f32) (i : s.Idx)
    (p : su.Idx → Prop) [DecidablePred p] (hp : ∀ j, d.resultIdx? j idx = some i ↔ p j) :
    Host.scatterAdd d x idx u i = x i + ∑ j : su.Idx, if p j then u j else 0 := by
  show x i + ∑ j ∈ Finset.univ.filter (fun j => d.resultIdx? j idx = some i), u j = _
  rw [Finset.sum_filter]
  exact congrArg (fun z => x i + z) (Finset.sum_congr rfl fun j _ => if_congr (hp j) rfl rfl)

/-- A sum over the flat samples, sample by sample and class by class. -/
theorem regroup {N A B : ℕ} (hN : N = A * B) (f : (⟨1, ![N]⟩ : Shape).Idx → EReal) (hlt : ∀ (a : Fin A) (b : Fin B), a.val * B + b.val < N) :
    ∑ j, f j = ∑ a : Fin A, ∑ b : Fin B, f (ix1 ⟨a.val * B + b.val, hlt a b⟩) := by
  refine (sum_idx1 f).trans ?_
  exact (Fin.sum_mul_add_congr (F := fun a b => f (ix1 ⟨a.val * B + b.val, hlt a b⟩)) (fun _ _ _ => rfl) hN).symm

theorem flat_lt (n : Fin 500000) (c : Fin 20) : n.val * 20 + c.val < 10000000 := by omega

theorem bin_lt (c : Fin 20) (b : Fin 10) : c.val * 10 + b.val < 201 := by omega

theorem samples_eq : 10000000 = 500000 * 20 := by norm_num

/-- The scattered sums at a flat number. -/
theorem scattered (x : FVec Ideal S201 .f32) (u : FVec Ideal S10000000 .f32) (e : Fin 201) :
    Host.scatterAdd scatter_S201_S10000000x1_S10000000_n_0_0_1 x (flat L) u (ix1 e)
      = x (ix1 e) + ∑ n : Fin 500000, ∑ c : Fin 20,
        if (flat L (ix2 ⟨n.val * 20 + c.val, flat_lt n c⟩ 0)).toInt = (e.val : Int) then u (ix1 ⟨n.val * 20 + c.val, flat_lt n c⟩) else 0 := by
  refine (scatterAdd_apply _ x (flat L) u (ix1 e) (fun j => (flat L (ix2 (j 0) 0)).toInt = (e.val : Int)) (fun j => ?_)).trans ?_
  · obtain ⟨k, rfl⟩ : ∃ k : Fin 10000000, j = ix1 k := ⟨j 0, (ix1_eta (n0 := 10000000) j).symm⟩
    exact scatter_lands k (flat L) e
  · exact congrArg (fun z => x (ix1 e) + z) (regroup (A := 500000) (B := 20) samples_eq _ flat_lt)

/-- At class `c` and bin `b`: the sum of `u` over the samples in the bin. -/
theorem binned_apply (u : FVec Ideal S10000000 .f32) (c : Fin 20) (b : Fin 10) (h1 : ∀ (i : Fin 500000) (l : Fin 20), argP L (ix2 i l.castSucc) ≤ 1) :
    binned L u (ix2 c b) = ∑ n : Fin 500000, if inBin (argP L (ix2 n c.castSucc)) b.val then u (ix1 ⟨n.val * 20 + c.val, flat_lt n c⟩) else 0 := by
  pointwise [binned]
  rw [scattered L _ u ⟨c.val * 10 + b.val, bin_lt c b⟩]
  refine Eq.trans (congrArg (fun z => z + _) (show _ = (0 : EReal) from Ideal.ofBits_zero .f32)) ?_
  rw [zero_add]
  refine Finset.sum_congr rfl fun n _ => ?_
  refine (Finset.sum_congr rfl fun c' _ => if_congr (Q := c' = c ∧ inBin (argP L (ix2 n c'.castSucc)) b.val) ?_ rfl rfl).trans ?_
  · rw [flat_apply L n c', ← flat_iff (h1 n c') c' c b, Nat.mul_comm 10 c.val]
  · rw [Finset.sum_eq_single c]
    · exact if_congr (by simp) rfl rfl
    · intro c' _ hne
      exact if_neg fun h => hne h.1
    · exact fun h => absurd (Finset.mem_univ c) h

end Cert.ReferenceIdeal.Value

end
-- ==== Proof.RefValue.lean ====
/-
What the reference computes: its four arrays of sums by class and bin are the real sums over the samples of each bin, and
its result is the score of those sums.
-/

module

public import proofs.«01_k».proof.Proof.RefBins

@[expose] public section

noncomputable section

namespace Cert.ReferenceIdeal.Value

open Cert.ReferenceIdeal Cert.ReferenceIdeal.Gen Idealize.ShloMosaic Idealize.ShloMosaic.TcCoe Idealize.SL.Sem Calib

/-- Mean score less precision, bin by bin. -/
def gap (ns sp nm tp : FVec Ideal S20x10 .f32) : FVec Ideal S20x10 .f32 :=
  subf (Host.divf sp (maximumf ns (broadcastInDim S20x10 ![] bcast_S_S20x10 (constant S_ .f32 0x3F800000#32))))
    (Host.divf tp (maximumf (addf tp (addf (subf ns nm) (subf nm tp))) (broadcastInDim S20x10 ![] bcast_S_S20x10 (constant S_ .f32 0x2B8CBCCC#32))))

/-- The error of every class: the root of its bins' weighted sum of squares. -/
def perClass (ns sp nm tp : FVec Ideal S20x10 .f32) : FVec Ideal S20 .f32 :=
  Host.powf (Host.reduceAdd (select (cmpf .ogt ns (broadcastInDim S20x10 ![] bcast_S_S20x10 (constant S_ .f32 0x00000000#32)))
      (mulf (Host.divf ns (broadcastInDim S20x10 ![0, 1] bcast_S20x1_S20x10_0_1 (broadcastInDim S20x1 ![0] bcast_S20_S20x1_0
          (Host.reduceAdd ns (constant S_ .f32 0x00000000#32) reducesTo_S20x10_S20_d1 h_S_)))) (mulf (gap ns sp nm tp) (gap ns sp nm tp)))
      (broadcastInDim S20x10 ![] bcast_S_S20x10 (id (constant S_ .f32 0x00000000#32)))) (constant S_ .f32 0x00000000#32) reducesTo_S20x10_S20_d1 h_S_)
    (broadcastInDim S20 ![] bcast_S_S20 (constant S_ .f32 0x3F000000#32))

/-- The result: the root of the mean over the classes of the squared errors. -/
def tailOf (ns sp nm tp : FVec Ideal S20x10 .f32) : FVec Ideal S1x1 .f32 :=
  shapeCast _ (Host.powf (Host.divf (Host.reduceAdd (mulf (perClass ns sp nm tp) (perClass ns sp nm tp)) (constant S_ .f32 0x00000000#32) reducesTo_S20_S_d0 h_S_)
    (constant S_ .f32 0x41A00000#32)) (constant S_ .f32 0x3F000000#32)) shapeCasts_S_S1x1

/-- A class's error is the root of the class's score. -/
theorem perClass_eq (ns sp nm tp : FVec Ideal S20x10 .f32) (N S M T : Fin 20 → Fin 10 → ℝ)
    (hN : ∀ c b, ns (ix2 c b) = (N c b : EReal)) (hS : ∀ c b, sp (ix2 c b) = (S c b : EReal))
    (hM : ∀ c b, nm (ix2 c b) = (M c b : EReal)) (hT : ∀ c b, tp (ix2 c b) = (T c b : EReal)) (hn : ∀ c b, Count (N c b)) (c : Fin 20) :
    perClass ns sp nm tp (ix1 c) = ((Real.sqrt (classScore (N c) (S c) (T c)) : ℝ) : EReal) := by
  pointwise [perClass, gap]
  simp only [hN, hS, hM, hT]
  have key : ∀ b : Fin 10, _ = ((term (N c b) (S c b) (T c b) (∑ i, N c i) : ℝ) : EReal) := fun b =>
    reference_term (N c b) (S c b) (M c b) (T c b) (∑ i, N c i) (hn c b) (le_total (N c) (fun j => (hn c j).nonneg) b)
  rw [← pow_half (classScore_nonneg (N c) (S c) (T c) fun j => (hn c j).nonneg)]
  refine congrArg (fun z => Ideal.pow z _) ?_
  unfold classScore
  rw [coe_sum]
  refine Finset.sum_congr rfl fun b _ => ?_
  rw [← key b, coe_sum]
  refine if_congr Iff.rfl rfl ?_
  exact Ideal.ofBits_zero .f32

theorem tail_eq (ns sp nm tp : FVec Ideal S20x10 .f32) (N S M T : Fin 20 → Fin 10 → ℝ)
    (hN : ∀ c b, ns (ix2 c b) = (N c b : EReal)) (hS : ∀ c b, sp (ix2 c b) = (S c b : EReal))
    (hM : ∀ c b, nm (ix2 c b) = (M c b : EReal)) (hT : ∀ c b, tp (ix2 c b) = (T c b : EReal)) (hn : ∀ c b, Count (N c b)) :
    tailOf ns sp nm tp (ix2 0 0) = ((score N S T : ℝ) : EReal) := by
  pointwise [tailOf]
  simp only [perClass_eq ns sp nm tp N S M T hN hS hM hT hn]
  have h0 : ∀ c, 0 ≤ classScore (N c) (S c) (T c) := fun c => classScore_nonneg _ _ _ fun j => (hn c j).nonneg
  have hs : ∀ c, (↑(Real.sqrt (classScore (N c) (S c) (T c))) * ↑(Real.sqrt (classScore (N c) (S c) (T c))) : EReal)
      = ((classScore (N c) (S c) (T c) : ℝ) : EReal) := fun c => by
    rw [← EReal.coe_mul, Real.mul_self_sqrt (h0 c)]
  simp only [hs]
  rw [← coe_sum, bits_twenty, div_coe _ (by norm_num)]
  exact pow_half (div_nonneg (Finset.sum_nonneg fun c _ => h0 c) (by norm_num))

theorem and_one : ∀ b : BitVec 1, b &&& 1#1 = 1#1 ↔ b = 1#1 := by decide

theorem bit_and : ∀ b : BitVec 1, (1#1 &&& b = 1#1 ↔ b = 1#1) ∧ (0#1 &&& b = 0#1) := by decide

theorem eq_and (x y : BitVec 32) (b : BitVec 1) :
    (if IntOp.cmpi .eq x y &&& b = 1#1 then 1 else 0 : EReal) = if x = y then (if b = 1#1 then 1 else 0) else 0 := by
  by_cases h : x = y
  · rw [if_pos h, show IntOp.cmpi .eq x y = 1#1 by simp [IntOp.cmpi, h]]
    exact if_congr (bit_and b).1 rfl rfl
  · have hb : (x == y) = false := by simpa using h
    rw [if_neg h, show IntOp.cmpi .eq x y = 0#1 by simp [IntOp.cmpi, hb], (bit_and b).2]
    exact if_neg (by decide)

variable (L : Valuation τ sig (Elt Ideal))

/-- What the four scatters add of each sample. -/
def onesOf : FVec Ideal S10000000 .f32 := shapeCast _ (broadcastInDim S500000x20 ![] bcast_S_S500000x20 (constant S_ .f32 0x3F800000#32)) shapeCasts_S500000x20_S10000000
def scoresOf : FVec Ideal S10000000 .f32 := shapeCast _ (res_main_v1 L) shapeCasts_S500000x20_S10000000

/-- The result's term is the tail of the four scattered sums. -/
theorem result_eq : ∃ um ut : FVec Ideal S10000000 .f32,
    (∀ (n : Fin 500000) (c : Fin 20), um (ix1 ⟨n.val * 20 + c.val, flat_lt n c⟩) = if argM L (ix1 n) = 1#1 then 1 else 0)
    ∧ (∀ (n : Fin 500000) (c : Fin 20), ut (ix1 ⟨n.val * 20 + c.val, flat_lt n c⟩)
      = if argL L (ix1 n) = BitVec.ofNat 32 c.val then (if argM L (ix1 n) = 1#1 then 1 else 0) else 0)
    ∧ (shapeCast _ (Host.powf (Host.divf (Host.reduceAdd (mulf (res_main_v102 L) (res_main_v102 L)) (constant S_ .f32 0x00000000#32) reducesTo_S20_S_d0 h_S_) (constant S_ .f32 0x41A00000#32)) (constant S_ .f32 0x3F000000#32)) shapeCasts_S_S1x1 : FVec Ideal S1x1 .f32)
      = tailOf (binned L onesOf) (binned L (scoresOf L)) (binned L um) (binned L ut) := by
  refine ⟨_, _, ?_, ?_, by
    unfold res_main_v102 res_main_v96 res_main_v73 res_main_v77 res_main_v79 tailOf perClass gap
    rfl⟩
  · intro n c
    pointwise
    show FloatOps.uitofp (F := Ideal) .f32 (argM L (ix1 n) &&& 1#1) = _
    rw [uitofp_bit]
    exact if_congr (and_one _) rfl rfl
  · intro n c
    pointwise [res_main_v14]
    show FloatOps.uitofp (F := Ideal) .f32 (IntOp.cmpi .eq (argL L (ix1 n)) (BitVec.ofNat 32 c.val) &&& argM L (ix1 n)) = _
    rw [uitofp_bit]
    exact eq_and _ _ _

theorem ones_apply (n : Fin 500000) (c : Fin 20) : onesOf (ix1 ⟨n.val * 20 + c.val, flat_lt n c⟩) = 1 := by
  pointwise [onesOf]

theorem scores_apply (n : Fin 500000) (c : Fin 20) : scoresOf L (ix1 ⟨n.val * 20 + c.val, flat_lt n c⟩) = argP L (ix2 n c.castSucc) := by
  pointwise [scoresOf, res_main_v1]
  rfl

/-- The sums of a bin are real, and the reference's arrays hold them. -/
theorem binned_real (u : FVec Ideal S10000000 .f32) (f : Fin 20 → Fin 500000 → ℝ) (h1 : ∀ (i : Fin 500000) (l : Fin 20), argP L (ix2 i l.castSucc) ≤ 1)
    (hu : ∀ (n : Fin 500000) (c : Fin 20) (b : Fin 10), inBin (argP L (ix2 n c.castSucc)) b.val → u (ix1 ⟨n.val * 20 + c.val, flat_lt n c⟩) = (f c n : EReal))
    (c : Fin 20) (b : Fin 10) :
    binned L u (ix2 c b) = ((binSum (fun i => argP L (ix2 i c.castSucc)) (f c) b.val : ℝ) : EReal) := by
  rw [binned_apply L u c b h1, binSum, coe_sum]
  refine Finset.sum_congr rfl fun n _ => ?_
  rw [coe_ite]
  by_cases h : inBin (argP L (ix2 n c.castSucc)) b.val
  · rw [if_pos h, if_pos h, hu n c b h]
  · rw [if_neg h, if_neg h, EReal.coe_zero]

/-- The reference's result, where no score is above one: the score of the real sums. -/
theorem reference_result (h1 : ∀ (i : Fin 500000) (l : Fin 20), argP L (ix2 i l.castSucc) ≤ 1) :
    (shapeCast _ (Host.powf (Host.divf (Host.reduceAdd (mulf (res_main_v102 L) (res_main_v102 L)) (constant S_ .f32 0x00000000#32) reducesTo_S20_S_d0 h_S_) (constant S_ .f32 0x41A00000#32)) (constant S_ .f32 0x3F000000#32)) shapeCasts_S_S1x1 : FVec Ideal S1x1 .f32)
      (ix2 0 0) = ((score
      (fun l j => binSum (fun i => argP L (ix2 i l.castSucc)) (fun _ => 1) j.val)
      (fun l j => binSum (fun i => argP L (ix2 i l.castSucc)) (fun i => (argP L (ix2 i l.castSucc)).toReal) j.val)
      (fun l j => binSum (fun i => argP L (ix2 i l.castSucc))
        (fun i => if argL L (ix1 i) = BitVec.ofNat 32 l.val then (if argM L (ix1 i) = 1#1 then 1 else 0) else 0) j.val) : ℝ) : EReal) := by
  obtain ⟨um, ut, hum, hut, e⟩ := result_eq L
  rw [e]
  refine tail_eq _ _ _ _ _ _ (fun l j => binSum (fun i => argP L (ix2 i l.castSucc)) (fun i => if argM L (ix1 i) = 1#1 then 1 else 0) j.val) _
    (binned_real L onesOf (fun _ _ => 1) h1 fun n c b _ => ones_apply n c)
    (binned_real L (scoresOf L) (fun l i => (argP L (ix2 i l.castSucc)).toReal) h1 fun n c b hb => (scores_apply L n c).trans (coe_of_above (h1 n c) hb.1).symm)
    (binned_real L um (fun _ i => if argM L (ix1 i) = 1#1 then 1 else 0) h1 fun n c b _ => (hum n c).trans (coe_ite _ _ _).symm)
    (binned_real L ut (fun l i => if argL L (ix1 i) = BitVec.ofNat 32 l.val then (if argM L (ix1 i) = 1#1 then 1 else 0) else 0) h1
      fun n c b _ => (hut n c).trans (by rw [coe_ite, coe_ite]; rfl))
    (fun c b => binSum_count _ _)

end Cert.ReferenceIdeal.Value

end
-- ==== Proof.ScoresAtMostOne.lean ====
/-
The precondition read: where its predicate is true, none of the first twenty scores of a sample is above one.
-/

module

public import proofs.«01_k».proof.Proof.Gen.Pre_at_most_one
public import Idealize.ShloMosaic.Lib.ReduceAll
public import Idealize.ShloMosaic.Lib.Pointwise
public import Idealize.ShloMosaic.Lib.IdealHost

@[expose] public section

noncomputable section

namespace Cert.Pre_at_most_one

open Idealize.ShloMosaic

/-- The one bit of a comparison is set where the comparison holds. -/
theorem le_of_bit {x y : EReal} (h : FloatOps.cmpf (F := Ideal) (φ := .f32) .ole x y = 1#1) : x ≤ y := by
  have h' : BitVec.ofBool (decide (x ≤ y)) = 1#1 := h
  by_contra hn
  rw [decide_eq_false hn] at h'
  exact absurd h' (by decide)

/-- The predicate is a conjunction over all samples and classes of "the score is at most one". -/
theorem score_le_one (p : FVec Ideal S500000x21 .f32) (l : IVec S500000 32) (v : IVec S500000 1) (h : fn (F := Ideal) p l v = fun _ => 1#1)
    (i : Fin 500000) (k : Fin 20) : p (ix2 i k.castSucc) ≤ 1 := by
  haveI : Subsingleton S_.Idx := ⟨fun a b => funext fun d => d.elim0⟩
  let j : S_.Idx := fun d => d.elim0
  unfold fn at h
  have hb := Host.reduce_andi_all _ _ _ _ j (congrFun h j) (ix2 i k)
  have e : (extractStridedSlice S500000x20 ![0, 0] p Facts.slices_S500000x21_S500000x20_0_0) (ix2 i k) = p (ix2 i k.castSucc) := by
    pointwise
    rfl
  exact (e.symm.trans_le (le_of_bit hb)).trans_eq Ideal.ofBits_one_f32

end Cert.Pre_at_most_one

end
-- ==== Proof.lean ====
/-
The proof of the certificate's claim.  The printed kernel and the idealized one run, keep their arguments and leave every
counter at zero by the generated frame; the reference, which declares no semaphore, by its generated run.  No operation
of the kernel was changed by the idealization, so that claim has no site.  The kernel's result and the reference's are
both the score of the same real sums where no score is above one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_at_most_one
public import proofs.«01_k».proof.Proof.Gen.KernelIdeal.Value
public import proofs.«01_k».proof.Proof.Gen.ReferenceIdeal.Run
public import proofs.«01_k».proof.Proof.KernelEpilogue
public import proofs.«01_k».proof.Proof.RefValue
public import proofs.«01_k».proof.Proof.ScoresAtMostOne
public import Idealize.ShloMosaic.Adequacy
public import Idealize.ShloMosaic.Init

@[expose] public section

noncomputable section

namespace Cert.Proof

open Idealize.ShloMosaic Idealize.ShloMosaic.StableHlo Idealize.SL.Sem Cert.Calib

/-- The reference runs, keeps its arguments and, having no semaphore, ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The score that both programs compute, of the three argument arrays. -/
def scoreOf (p : FVec Ideal Cert.KernelIdeal.S500000x21 .f32) (l : IVec Cert.KernelIdeal.S500000 32) (v : IVec Cert.KernelIdeal.S500000 1) : EReal :=
  ((score
    (fun k j => binSum (fun i => p (ix2 i k.castSucc)) (fun _ => 1) j.val)
    (fun k j => binSum (fun i => p (ix2 i k.castSucc)) (fun i => (p (ix2 i k.castSucc)).toReal) j.val)
    (fun k j => binSum (fun i => p (ix2 i k.castSucc))
      (fun i => if l (ix1 i) = BitVec.ofNat 32 k.val then (if v (ix1 i) = 1#1 then 1 else 0) else 0) j.val) : ℝ) : EReal)

/-- A one by one array has one entry. -/
theorem one_entry (x y : FVec Ideal Cert.ReferenceIdeal.S1x1 .f32) (h : x (ix2 0 0) = y (ix2 0 0)) : x = y := by
  funext i
  have e : i = ix2 (n0 := 1) (n1 := 1) 0 0 := by
    funext d
    fin_cases d
    · exact Subsingleton.elim (α := Fin 1) _ _
    · exact Subsingleton.elim (α := Fin 1) _ _
  rw [e]
  exact h

/-- From memories that agree on the arguments, the kernel's result and the reference's are the score of the same arrays. -/
theorem algebraic : Cert.algebraic_KernelIdeal_ReferenceIdeal_pre_at_most_one := by
  intro m g m' g' hpre hag
  have h1 (c : Dev Cert.KernelIdeal.nD) (i : Fin 500000) (k : Fin 20) : Cert.KernelIdeal.Value.argP m c (ix2 i k.castSucc) ≤ 1 :=
    Cert.Pre_at_most_one.score_le_one _ _ _ (hpre c) i k
  refine ⟨fun c => Cert.KernelIdeal.Value.G4 m c, Cert.KernelIdeal.Value.run m g, ?_⟩
  refine (θ_run Cert.ReferenceIdeal.defs _ _).mono (fun r h c => ⟨(h c).1.trans (one_entry _ _ ?_), (h c).2⟩) (Cert.ReferenceIdeal.Value.run (F := Ideal) m' g')
  have e0 : Cert.ReferenceIdeal.Value.argP (launchContents m' c) = Cert.KernelIdeal.Value.argP m c := (hag c).1
  have e1 : Cert.ReferenceIdeal.Value.argL (launchContents m' c) = Cert.KernelIdeal.Value.argL m c := (hag c).2.1
  have e2 : Cert.ReferenceIdeal.Value.argM (launchContents m' c) = Cert.KernelIdeal.Value.argM m c := (hag c).2.2
  have hr : _ = scoreOf (Cert.ReferenceIdeal.Value.argP (launchContents m' c)) (Cert.ReferenceIdeal.Value.argL (launchContents m' c))
      (Cert.ReferenceIdeal.Value.argM (launchContents m' c)) :=
    Cert.ReferenceIdeal.Value.reference_result (launchContents m' c) fun i k => (congrFun e0 (ix2 i k.castSucc)).trans_le (h1 c i k)
  rw [e0, e1, e2] at hr
  exact hr.trans (Cert.KernelIdeal.Value.kernel_result m c (h1 c)).symm

theorem claim : Cert.Claim := ⟨Cert.Kernel.Gen.facts, Cert.KernelIdeal.Gen.facts, Cert.ReferenceIdeal.Gen.facts, Cert.Pre_at_most_one.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, algebraic⟩

end Cert.Proof

end
